-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x32 : Shape := ⟨2, ![512, 32]⟩
abbrev S1024x1 : Shape := ⟨2, ![1024, 1]⟩
abbrev S4x512x1024 : Shape := ⟨3, ![4, 512, 1024]⟩
abbrev S1024x1024 : Shape := ⟨2, ![1024, 1024]⟩
abbrev S8x128x1024 : Shape := ⟨3, ![8, 128, 1024]⟩
abbrev S128x1024 : Shape := ⟨2, ![128, 1024]⟩
abbrev S8 : Shape := ⟨1, ![8]⟩
abbrev S_ : Shape := ⟨0, ![]⟩
abbrev S128x512 : Shape := ⟨2, ![128, 512]⟩
abbrev S128x1 : Shape := ⟨2, ![128, 1]⟩
abbrev S1x512x1024 : Shape := ⟨3, ![1, 512, 1024]⟩
abbrev S512x1024 : Shape := ⟨2, ![512, 1024]⟩
abbrev S1x128x1024 : Shape := ⟨3, ![1, 128, 1024]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S1024x512, .bf16⟩
  | .hbm, ⟨1, _⟩ => ⟨S512x32, .bf16⟩
  | .hbm, ⟨2, _⟩ => ⟨S1024x1, .i32⟩
  | .hbm, ⟨3, _⟩ => ⟨S4x512x1024, .bf16⟩
  | .hbm, ⟨4, _⟩ => ⟨S1024x1024, .f32⟩
  | .local _ .vmem, ⟨0, _⟩ => ⟨S1024x512, .bf16⟩
  | .local _ .vmem, ⟨1, _⟩ => ⟨S1024x1, .i32⟩
  | .local _ .vmem, ⟨2, _⟩ => ⟨S4x512x1024, .bf16⟩
  | .local _ .vmem, ⟨3, _⟩ => ⟨S1024x1024, .f32⟩
  | .local _ .vmem, ⟨4, _⟩ => ⟨S4x512x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S128x1024, .bf16⟩
  | .local _ .vmem, ⟨8, _⟩ => ⟨S8x128x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_34 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.addi v2 c1_i32_34
  let c8_i32_35 : BitVec 32 := 8#32
  let v38 : BitVec 32 := Scalar.remsi v37 c8_i32_35
  let c128_i32 : BitVec 32 := 128#32
  let v39 : BitVec 32 := Scalar.muli v38 c128_i32
  let v40 : Index := Scalar.indexCast v39
  let c0_36 : Index := 0#32
  ![v40.toNat, 0]
def k0_off2 (d0 : Dev nD) (c1_i32_34 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.addi v2 c1_i32_34
  let c8_i32_35 : BitVec 32 := 8#32
  let v38 : BitVec 32 := Scalar.remsi v37 c8_i32_35
  let c128_i32_37 : BitVec 32 := 128#32
  let v43 : BitVec 32 := Scalar.muli v38 c128_i32_37
  let v44 : Index := Scalar.indexCast v43
  let c0_38 : Index := 0#32
  ![v44.toNat, 0]
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v37 : BitVec 32 := Scalar.addi v2 c1_i32_34
  let c8_i32_35 : BitVec 32 := 8#32
  let v38 : BitVec 32 := Scalar.remsi v37 c8_i32_35
  let c1_i32_71 : BitVec 32 := 1#32
  let v100 : BitVec 32 := Scalar.muli v38 c1_i32_71
  let v101 : BitVec 32 := Scalar.addi c0_i32_72 v100
  v101.toNat
def k0_dev9 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v110 : BitVec 32 := Scalar.addi v2 c2_i32_77
  let c8_i32_78 : BitVec 32 := 8#32
  let v111 : BitVec 32 := Scalar.remsi v110 c8_i32_78
  let c1_i32_119 : BitVec 32 := 1#32
  let v173 : BitVec 32 := Scalar.muli v111 c1_i32_119
  let v174 : BitVec 32 := Scalar.addi c0_i32_120 v173
  v174.toNat
def k0_dev10 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_125 : BitVec 32 := 3#32
  let v183 : BitVec 32 := Scalar.addi v2 c3_i32_125
  let c8_i32_126 : BitVec 32 := 8#32
  let v184 : BitVec 32 := Scalar.remsi v183 c8_i32_126
  let c1_i32_167 : BitVec 32 := 1#32
  let v246 : BitVec 32 := Scalar.muli v184 c1_i32_167
  let v247 : BitVec 32 := Scalar.addi c0_i32_168 v246
  v247.toNat
def k0_dev11 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_173 : BitVec 32 := 4#32
  let v256 : BitVec 32 := Scalar.addi v2 c4_i32_173
  let c8_i32_174 : BitVec 32 := 8#32
  let v257 : BitVec 32 := Scalar.remsi v256 c8_i32_174
  let c1_i32_214 : BitVec 32 := 1#32
  let v319 : BitVec 32 := Scalar.muli v257 c1_i32_214
  let v320 : BitVec 32 := Scalar.addi c0_i32_215 v319
  v320.toNat
def k0_dev12 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_220 : BitVec 32 := 5#32
  let v329 : BitVec 32 := Scalar.addi v2 c5_i32_220
  let c8_i32_221 : BitVec 32 := 8#32
  let v330 : BitVec 32 := Scalar.remsi v329 c8_i32_221
  let c1_i32_261 : BitVec 32 := 1#32
  let v392 : BitVec 32 := Scalar.muli v330 c1_i32_261
  let v393 : BitVec 32 := Scalar.addi c0_i32_262 v392
  v393.toNat
def k0_dev13 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_267 : BitVec 32 := 6#32
  let v402 : BitVec 32 := Scalar.addi v2 c6_i32_267
  let c8_i32_268 : BitVec 32 := 8#32
  let v403 : BitVec 32 := Scalar.remsi v402 c8_i32_268
  let c1_i32_308 : BitVec 32 := 1#32
  let v465 : BitVec 32 := Scalar.muli v403 c1_i32_308
  let v466 : BitVec 32 := Scalar.addi c0_i32_309 v465
  v466.toNat
def k0_dev14 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_314 : BitVec 32 := 7#32
  let v475 : BitVec 32 := Scalar.addi v2 c7_i32_314
  let c8_i32_315 : BitVec 32 := 8#32
  let v476 : BitVec 32 := Scalar.remsi v475 c8_i32_315
  let c1_i32_355 : BitVec 32 := 1#32
  let v538 : BitVec 32 := Scalar.muli v476 c1_i32_355
  let v539 : BitVec 32 := Scalar.addi c0_i32_356 v538
  v539.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_361 : BitVec 32 := 128#32
  let v548 : BitVec 32 := Scalar.muli v2 c128_i32_361
  let v549 : Index := Scalar.indexCast v548
  let c0_362 : Index := 0#32
  ![v549.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_363 : BitVec 32 := 128#32
  let v552 : BitVec 32 := Scalar.muli v2 c128_i32_363
  let v553 : Index := Scalar.indexCast v552
  let c0_364 : Index := 0#32
  ![v553.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_487 : BitVec 32 := 128#32
  let v687 : BitVec 32 := Scalar.muli v2 c128_i32_487
  let v688 : Index := Scalar.indexCast v687
  let c0_488 : Index := 0#32
  ![v688.toNat, 0]
def k0_dev15 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_489 : BitVec 32 := 1#32
  let v690 : BitVec 32 := Scalar.addi v2 c1_i32_489
  let c8_i32_490 : BitVec 32 := 8#32
  let v691 : BitVec 32 := Scalar.remsi v690 c8_i32_490
  let c1_i32_494 : BitVec 32 := 1#32
  let v692 : BitVec 32 := Scalar.muli v691 c1_i32_494
  let v693 : BitVec 32 := Scalar.addi c0_i32_495 v692
  v693.toNat
def k0_dev16 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_498 : BitVec 32 := 2#32
  let v700 : BitVec 32 := Scalar.addi v2 c2_i32_498
  let c8_i32_499 : BitVec 32 := 8#32
  let v701 : BitVec 32 := Scalar.remsi v700 c8_i32_499
  let c1_i32_503 : BitVec 32 := 1#32
  let v702 : BitVec 32 := Scalar.muli v701 c1_i32_503
  let v703 : BitVec 32 := Scalar.addi c0_i32_504 v702
  v703.toNat
def k0_dev17 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_507 : BitVec 32 := 3#32
  let v710 : BitVec 32 := Scalar.addi v2 c3_i32_507
  let c8_i32_508 : BitVec 32 := 8#32
  let v711 : BitVec 32 := Scalar.remsi v710 c8_i32_508
  let c1_i32_512 : BitVec 32 := 1#32
  let v712 : BitVec 32 := Scalar.muli v711 c1_i32_512
  let v713 : BitVec 32 := Scalar.addi c0_i32_513 v712
  v713.toNat
def k0_dev18 (d0 : Dev nD) : Nat :=
  let c0_i32_522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_516 : BitVec 32 := 4#32
  let v720 : BitVec 32 := Scalar.addi v2 c4_i32_516
  let c8_i32_517 : BitVec 32 := 8#32
  let v721 : BitVec 32 := Scalar.remsi v720 c8_i32_517
  let c1_i32_521 : BitVec 32 := 1#32
  let v722 : BitVec 32 := Scalar.muli v721 c1_i32_521
  let v723 : BitVec 32 := Scalar.addi c0_i32_522 v722
  v723.toNat
def k0_dev19 (d0 : Dev nD) : Nat :=
  let c0_i32_531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_525 : BitVec 32 := 5#32
  let v730 : BitVec 32 := Scalar.addi v2 c5_i32_525
  let c8_i32_526 : BitVec 32 := 8#32
  let v731 : BitVec 32 := Scalar.remsi v730 c8_i32_526
  let c1_i32_530 : BitVec 32 := 1#32
  let v732 : BitVec 32 := Scalar.muli v731 c1_i32_530
  let v733 : BitVec 32 := Scalar.addi c0_i32_531 v732
  v733.toNat
def k0_dev20 (d0 : Dev nD) : Nat :=
  let c0_i32_540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_534 : BitVec 32 := 6#32
  let v740 : BitVec 32 := Scalar.addi v2 c6_i32_534
  let c8_i32_535 : BitVec 32 := 8#32
  let v741 : BitVec 32 := Scalar.remsi v740 c8_i32_535
  let c1_i32_539 : BitVec 32 := 1#32
  let v742 : BitVec 32 := Scalar.muli v741 c1_i32_539
  let v743 : BitVec 32 := Scalar.addi c0_i32_540 v742
  v743.toNat
def k0_dev21 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_543 : BitVec 32 := 7#32
  let v750 : BitVec 32 := Scalar.addi v2 c7_i32_543
  let c8_i32_544 : BitVec 32 := 8#32
  let v751 : BitVec 32 := Scalar.remsi v750 c8_i32_544
  let c1_i32_548 : BitVec 32 := 1#32
  let v752 : BitVec 32 := Scalar.muli v751 c1_i32_548
  let v753 : BitVec 32 := Scalar.addi c0_i32_549 v752
  v753.toNat
def k0_off6 (d0 : Dev nD) (c7_i32_559 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v766 : BitVec 32 := Scalar.addi v2 c7_i32_559
  let c8_i32_560 : BitVec 32 := 8#32
  let v767 : BitVec 32 := Scalar.remsi v766 c8_i32_560
  let c128_i32_564 : BitVec 32 := 128#32
  let v771 : BitVec 32 := Scalar.muli v767 c128_i32_564
  let v772 : Index := Scalar.indexCast v771
  let c0_565 : Index := 0#32
  ![v772.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x32 : Shape := ⟨2, ![512, 32]⟩
abbrev S1024x1 : Shape := ⟨2, ![1024, 1]⟩
abbrev S32x512x1024 : Shape := ⟨3, ![32, 512, 1024]⟩
abbrev S32x1024x1024 : Shape := ⟨3, ![32, 1024, 1024]⟩
abbrev S1024 : Shape := ⟨1, ![1024]⟩
abbrev S1x1024 : Shape := ⟨2, ![1, 1024]⟩
abbrev S32 : Shape := ⟨1, ![32]⟩
abbrev S32x1 : Shape := ⟨2, ![32, 1]⟩
abbrev S32x1024 : Shape := ⟨2, ![32, 1024]⟩
abbrev S32x1024x1 : Shape := ⟨3, ![32, 1024, 1]⟩
abbrev S_ : Shape := ⟨0, ![]⟩
abbrev S1024x1024 : Shape := ⟨2, ![1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x32, .bf16⟩
  | .hbm, ⟨2, _⟩ => ⟨S1024x1, .i32⟩
  | .hbm, ⟨3, _⟩ => ⟨S32x512x1024, .bf16⟩
  | .hbm, ⟨4, _⟩ => ⟨S1024x512, .f32⟩
  | .hbm, ⟨5, _⟩ => ⟨S32x512x1024, .f32⟩
  | .hbm, ⟨6, _⟩ => ⟨S32x1024x1024, .f32⟩
  | .hbm, ⟨7, _⟩ => ⟨S32x1024x1024, .f32⟩
  | .hbm, ⟨8, _⟩ => ⟨S1024, .i32⟩
  | .hbm, ⟨9, _⟩ => ⟨S1x1024, .i32⟩
  | .hbm, ⟨10, _⟩ => ⟨S32, .i32⟩
  | .hbm, ⟨11, _⟩ => ⟨S32x1, .i32⟩
  | .hbm, ⟨12, _⟩ => ⟨S32x1024, .i32⟩
  | .hbm, ⟨13, _⟩ => ⟨S32x1024, .i32⟩
  | .hbm, ⟨14, _⟩ => ⟨S32x1024, .i1⟩
  | .hbm, ⟨15, _⟩ => ⟨S32x1024x1, .i1⟩
  | .hbm, ⟨16, _⟩ => ⟨S_, .f32⟩
  | .hbm, ⟨17, _⟩ => ⟨S_, .f32⟩
  | .hbm, ⟨18, _⟩ => ⟨S32x1024x1024, .i1⟩
  | .hbm, ⟨19, _⟩ => ⟨S32x1024x1024, .f32⟩
  | .hbm, ⟨20, _⟩ => ⟨S32x1024x1024, .f32⟩
  | .hbm, ⟨21, _⟩ => ⟨S_, .f32⟩
  | .hbm, ⟨22, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Proof.Proto.lean ====
/-
# 01_k: the protocol of the kernel's devices

Eight devices. Every device tells the seven others at its barrier semaphore that its landing slots are free, waits
for the seven signals of the others, sends to each other device that device's 128 rows of its partial product (the
exchange), sums the eight partial products of its own 128 rows, sends the sum to every other device (the gather) and
puts the eight sums one below the other.

At step `r` (of seven) device `c` deals with the device `peer c r`, `r + 1` places after it round the ring; for
that device the same transfer is its step `rv r`. This module names the semaphore cells, the contents of the slots,
the schedule of the rounds library that says who pays what into which cell, and the levels of the waits.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Transfers
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring of devices -/

/-- The device `r + 1` places after `c`. -/
def peer (c : Dev nD) (r : Fin 7) : Dev nD := ⟨(c.val + r.val + 1) % 8, Nat.mod_lt _ (by decide)⟩

/-- The step at which the peer deals with this device. -/
def rv (r : Fin 7) : Fin 7 := ⟨6 - r.val, by omega⟩

theorem rv_rv (r : Fin 7) : rv (rv r) = r := by revert r; decide

theorem peer_rv (c : Dev nD) (r : Fin 7) : peer (peer c r) (rv r) = c := by revert c r; decide

/-- Whoever is not `c` is one of its peers. -/
theorem eq_or_peer (c q : Dev nD) : q = c ∨ ∃ r : Fin 7, q = peer c (rv r) := by revert c q; decide

theorem ne_peer (c : Dev nD) (r : Fin 7) : c ≠ peer c r := by revert c r; decide

theorem peer_rv_inj {c : Dev nD} {r r' : Fin 7} : peer c (rv r) = peer c (rv r') → r = r' := by revert c r r'; decide

/-- The device a printed device word names. -/
theorem dev_eq (c : Dev nD) (r : Fin 7) {n : ℕ} (h : n < nD) (hn : n = (c.val + r.val + 1) % 8) : (⟨n, h⟩ : Dev nD) = peer c r :=
  Fin.ext hn

/-- A device and its step, seen from the other end of the transfer. -/
def around : Dev nD × Fin 7 ≃ Dev nD × Fin 7 where
  toFun p := (peer p.1 p.2, rv p.2)
  invFun p := (peer p.1 p.2, rv p.2)
  left_inv p := Prod.ext (peer_rv p.1 p.2) (rv_rv p.2)
  right_inv p := Prod.ext (peer_rv p.1 p.2) (rv_rv p.2)

/-- The steps of one device, seen from the other end. -/
def rvEquiv : Fin 7 ≃ Fin 7 := ⟨rv, rv, rv_rv, rv_rv⟩

/-- The steps from `k` on. -/
def todo (k : ℕ) : Finset (Fin 7) := Finset.univ.filter (k ≤ ·.val)
/-- The steps before `k`. -/
def done (k : ℕ) : Finset (Fin 7) := Finset.univ.filter (·.val < k)

theorem todo_zero : todo 0 = Finset.univ := by decide
theorem todo_seven : todo 7 = ∅ := by decide
theorem done_zero : done 0 = ∅ := by decide
theorem done_seven : done 7 = Finset.univ := by decide

theorem todo_succ (k : ℕ) (hk : k < 7) : todo k = insert ⟨k, hk⟩ (todo (k + 1)) := by
  ext r; simp only [todo, Finset.mem_filter, Finset.mem_univ, true_and, Finset.mem_insert, Fin.ext_iff]; omega
theorem notMem_todo (k : ℕ) (hk : k < 7) : (⟨k, hk⟩ : Fin 7) ∉ todo (k + 1) := by
  simp [todo]
theorem done_succ (k : ℕ) (hk : k < 7) : done (k + 1) = insert ⟨k, hk⟩ (done k) := by
  ext r; simp only [done, Finset.mem_filter, Finset.mem_univ, true_and, Finset.mem_insert, Fin.ext_iff]; omega
theorem notMem_done (k : ℕ) (hk : k < 7) : (⟨k, hk⟩ : Fin 7) ∉ done k := by
  simp [done]

section Peel
variable {M : Type} [URA M]

/-- The next step's share of a family over the steps still to do. -/
theorem bigSep_todo (k : ℕ) (hk : k < 7) (Φ : Fin 7 → sProp M) :
    bigSep (todo k) Φ = iprop(Φ ⟨k, hk⟩ ∗ bigSep (todo (k + 1)) Φ) := by
  rw [todo_succ k hk, bigSep_insert (notMem_todo k hk)]; rfl

/-- A step's share put to a family over the steps done. -/
theorem bigSep_done (k : ℕ) (hk : k < 7) (Φ : Fin 7 → sProp M) :
    bigSep (done (k + 1)) Φ = iprop(Φ ⟨k, hk⟩ ∗ bigSep (done k) Φ) := by
  rw [done_succ k hk, bigSep_insert (notMem_done k hk)]; rfl

/-- One member of a family. -/
theorem family_at {I : Type} [DecidableEq I] {s : Finset I} {i : I} (h : i ∈ s) {Φ : I → sProp M} : (bigSep s Φ : sProp M) ⊢ Φ i :=
  bigSep_elim h

end Peel

/-! ## Buffers, slots and semaphores -/

abbrev xM : Memref sig .tc .vmem S1024x512 .bf16 := Memref.whole cc0_stg0_0
abbrev iM : Memref sig .tc .vmem S1024x1 (.i32) := Memref.whole cc0_stg1_0
abbrev wM : Memref sig .tc .vmem S4x512x1024 .bf16 := Memref.whole cc0_stg2_0
abbrev oM : Memref sig .tc .vmem S1024x1024 .f32 := Memref.whole cc0_stg3_0
abbrev bM : Memref sig .tc .vmem S4x512x1024 .bf16 := Memref.whole cc0_scratch0
abbrev pM : Memref sig .tc .vmem S8x128x1024 .bf16 := Memref.whole cc0_scratch1
abbrev rM : Memref sig .tc .vmem S8x128x1024 .bf16 := Memref.whole cc0_scratch2
abbrev gM : Memref sig .tc .vmem S128x1024 .bf16 := Memref.whole cc0_scratch3
abbrev aM : Memref sig .tc .vmem S8x128x1024 .bf16 := Memref.whole cc0_scratch4

theorem inb_slot (s : Fin 8) : ∀ a : Fin 3, (![s.val, 0, 0] : Fin 3 → ℕ) a + S1x128x1024.size a ≤ S8x128x1024.size a := by
  revert s; decide

/-- Slot `s` of a buffer of eight slots, as a rectangle of it. -/
abbrev slotR (s : Fin 8) : Rect S8x128x1024 := Rect.unit (s := S8x128x1024) ![s.val, 0, 0] S1x128x1024.size (inb_slot s)

/-- Slot `s` of a buffer of eight slots, as a block of its own. -/
abbrev slotM (b : Memref sig .tc .vmem S8x128x1024 .bf16) (s : Fin 8) : Memref sig .tc .vmem S128x1024 .bf16 :=
  (b.slice (slotR s) (fun _ => rfl)).squeeze S128x1024 squeezes_S1x128x1024_S128x1024

theorem inb_sem (s : Fin 8) : ∀ a : Fin 1, (![s.val] : Fin 1 → ℕ) a + S1.size a ≤ S8.size a := by
  revert s; decide

/-- The four arrays of DMA semaphores: sent and received in the exchange, sent and received in the gather. -/
abbrev arrOf : Fin 4 → DmaSems sig S8
  | 0 => cc0_scratch5
  | 1 => cc0_scratch6
  | 2 => cc0_scratch7
  | 3 => cc0_scratch8

/-- The semaphore of slot `s` in array `a`. -/
abbrev semOf (a : Fin 4) (s : Fin 8) : DmaSem sig :=
  (((arrOf a).slice (Rect.unit (s := S8) ![s.val] S1.size (inb_sem s)) : DmaSems sig S1).squeeze S_ squeezes_S1_S_).sem

theorem semOf_val : ∀ (a : Fin 4) (s : Fin 8), (semOf a s).val = 4 + 8 * a.val + s.val := by decide

/-- The barrier semaphore. -/
abbrev barS : Sem sig := (SemArray.scalar (sig.barrier 0 rfl) : Sems sig S_).sem

/-- The kernel's cells of one device: the barrier's, and one for every array and slot. -/
abbrev Key : Type := Option (Fin 4 × Fin 8)

/-- The semaphore of a cell. -/
abbrev csem : Key → SemLoc sig
  | none => .reg barS
  | some (a, s) => .dma (semOf a s)

/-- The cell a semaphore belongs to. -/
def role : SemLoc sig → Option Key
  | .reg s => if s = barS then some none else none
  | .dma q => if h : 4 ≤ q.val ∧ q.val < 36 then
      some (some (⟨(q.val - 4) / 8, by omega⟩, ⟨(q.val - 4) % 8, by omega⟩)) else none

theorem role_csem (k : Key) : role (csem k) = some k := by
  rcases k with _ | ⟨a, s⟩
  · show (if barS = barS then some none else none) = some (none : Key)
    exact if_pos rfl
  · have h := semOf_val a s
    unfold role
    dsimp only [csem]
    rw [dif_pos (by omega)]
    refine congrArg some (congrArg some (Prod.ext (Fin.ext ?_) (Fin.ext ?_)))
    · show ((semOf a s).val - 4) / 8 = a.val; omega
    · show ((semOf a s).val - 4) % 8 = s.val; omega

theorem csem_inj : Function.Injective csem := fun k k' h => Option.some.inj ((role_csem k).symm.trans ((congrArg role h).trans (role_csem k')))

/-- The cell of device `c`. -/
abbrev cell (k : Key) (c : Dev nD) : GSem nD τ sig := ((c : Thread nD τ), csem k)

/-- The received cell of a transfer, or its sent cell, at one step. -/
abbrev key (a : Fin 4) (d : Fin 7) : Key := some (a, d.succ)

theorem cell_inj {k k' : Key} {c c' : Dev nD} (h : cell k c = cell k' c') : k = k' ∧ c = c' :=
  ⟨csem_inj (congrArg Prod.snd h), congrArg (fun g : GSem nD τ sig => g.1.1) h⟩

theorem cell_prod_inj : Function.Injective fun p : Dev nD × Key => cell p.2 p.1 := fun p q h =>
  Prod.ext (cell_inj h).2 (cell_inj h).1

/-- What one slot's transfer credits. -/
abbrev N : ℕ := gM.view.dmaCredit
theorem N_pos : 0 < N := View.dmaCredit_pos _ (by decide)

theorem credit_p (s : Fin 8) : (slotM pM s).view.dmaCredit = N := rfl
theorem credit_r (s : Fin 8) : (slotM rM s).view.dmaCredit = N := rfl
theorem credit_a (s : Fin 8) : (slotM aM s).view.dmaCredit = N := rfl

/-! ## Contents -/

/-- The rows of device `r` in the tokens. -/
abbrev xR (r : Dev nD) : Rect S1024x512 := Rect.unit (s := S1024x512) ![128 * r.val, 0] S128x512.size (by revert r; decide)
/-- The rows of device `r` in the route indices. -/
abbrev iR (r : Dev nD) : Rect S1024x1 := Rect.unit (s := S1024x1) ![128 * r.val, 0] S128x1.size (by revert r; decide)
/-- The rows of device `r` in the result. -/
abbrev oR (r : Dev nD) : Rect S1024x1024 := Rect.unit (s := S1024x1024) ![128 * r.val, 0] S128x1024.size (by revert r; decide)
/-- One of a device's four experts. -/
abbrev bR (e : Fin 4) : Rect S4x512x1024 := Rect.unit (s := S4x512x1024) ![e.val, 0, 0] S1x512x1024.size (by revert e; decide)

/-- A block as the contents of a slot. -/
abbrev unsq (v : FVec F S128x1024 .bf16) : FVec F S1x128x1024 .bf16 := shapeCast S1x128x1024 v shapeCasts_S128x1024_S1x128x1024
/-- The contents of a slot as a block. -/
abbrev sq (v : FVec F S1x128x1024 .bf16) : FVec F S128x1024 .bf16 := shapeCast S128x1024 v shapeCasts_S1x128x1024_S128x1024

theorem sq_unsq (v : FVec F S128x1024 .bf16) : sq (unsq v) = v :=
  shapeCast_shapeCast _ _ _

theorem unsq_sq (v : FVec F S1x128x1024 .bf16) : unsq (sq v) = v :=
  shapeCast_shapeCast _ _ _

/-- The kernel's word for its device. -/
def meW (c : Dev nD) : BitVec 32 := Scalar.remsi (Scalar.divsi (Dev.word c) 1#32) 8#32

/-- One expert's product of a block of rows: the rows routed elsewhere made zero, then multiplied by the expert's matrix. -/
def prodOf (w : BitVec 32) (x : Vec F S128x512 .bf16) (i : Vec F S128x1 .i32) (e : Vec F S1x512x1024 .bf16) : FVec F S128x1024 .f32 :=
  matmul dot_S128x512_S512x1024_S128x1024_1_0_0_1_n_n none
    (select (broadcastTo S128x512 (shapeCast S128x1 (cmpi .eq (shapeCast S128x1 i shapeCasts_S128x1_S128x1) (broadcast S128x1 w))
        shapeCasts_S128x1_S128x1) broadcasts_S128x1_S128x512)
      (shapeCast S128x512 x shapeCasts_S128x512_S128x512) (broadcast S128x512 (Scalar.ofBits .bf16 0x0000)))
    (shapeCast S512x1024 e shapeCasts_S1x512x1024_S512x1024) (constant S128x1024 .f32 0x00000000#32)

/-- A block of rows through the device's four experts, summed and rounded. -/
def partOf (v2 : BitVec 32) (x : Vec F S128x512 .bf16) (i : Vec F S128x1 .i32) (w0 w1 w2 w3 : Vec F S1x512x1024 .bf16) : FVec F S128x1024 .bf16 :=
  truncf .bf16 (addf (addf (addf (addf (broadcast S128x1024 (Scalar.ofBits .f32 0x00000000))
    (prodOf (Scalar.addi (Scalar.muli v2 4#32) 0#32) x i w0)) (prodOf (Scalar.addi (Scalar.muli v2 4#32) 1#32) x i w1))
    (prodOf (Scalar.addi (Scalar.muli v2 4#32) 2#32) x i w2)) (prodOf (Scalar.addi (Scalar.muli v2 4#32) 3#32) x i w3)) bitsLt_bf16_f32

/-- The tokens a device has staged. -/
def xs (c : Dev nD) : cc0_stg0_0.ty.Contents (Elt F) := (win0_0.blk (0 : Fin 1)).view.read (Elt F) (m ((c : Thread nD τ).loc main_arg0))
/-- The route indices a device has staged. -/
def ids (c : Dev nD) : cc0_stg1_0.ty.Contents (Elt F) := (win0_1.blk (0 : Fin 1)).view.read (Elt F) (m ((c : Thread nD τ).loc main_arg2))
/-- The experts a device has staged. -/
def ws (c : Dev nD) : cc0_stg2_0.ty.Contents (Elt F) := (win0_2.blk (0 : Fin 1)).view.read (Elt F) (m ((c : Thread nD τ).loc main_arg3))

/-- The rows of device `r` through the experts of device `s`. -/
def part (s r : Dev nD) : FVec F S128x1024 .bf16 :=
  partOf (meW s) (xM.view.readAt (Elt F) (xR r).toLoadRect (xs m s)) (iM.view.readAt (Elt F) (iR r).toLoadRect (ids m s))
    (bM.view.readAt (Elt F) (bR 0).toLoadRect (ws m s)) (bM.view.readAt (Elt F) (bR 1).toLoadRect (ws m s))
    (bM.view.readAt (Elt F) (bR 2).toLoadRect (ws m s)) (bM.view.readAt (Elt F) (bR 3).toLoadRect (ws m s))

/-- The eight partial products of a device's rows, summed in the kernel's order. -/
def tot (c : Dev nD) : FVec F S128x1024 .bf16 :=
  k0_pay51 (k0_pay49 (part m c c) (unsq (part m (peer c 0) c)) (unsq (part m (peer c 1) c)) (unsq (part m (peer c 2) c)))
    (k0_pay50 (unsq (part m (peer c 3) c))) (unsq (part m (peer c 4) c)) (unsq (part m (peer c 5) c)) (unsq (part m (peer c 6) c))

/-- A device's rows of the result. -/
def rows (c : Dev nD) : FVec F S128x1024 .f32 := extf .f32 (tot m c) bitsLt_bf16_f32

/-! ## The schedule -/

/-- A slot owned at some contents. -/
def free (b : Memref sig .tc .vmem S8x128x1024 .bf16) (s : Fin 8) (c : Dev nD) : sProp 𝕄 :=
  iprop(∃ f : Buf (Elt F) ((slotM b s).view.loc (c : Thread nD τ)), (slotM b s).view.loc (c : Thread nD τ) ↦[(slotM b s).view.set]{fullShare} f)

instance (b : Memref sig .tc .vmem S8x128x1024 .bf16) (s : Fin 8) (c : Dev nD) : BI.Storable (upEmb : UEmb _ 𝕄) (free (F := F) b s c) := by
  unfold free; infer_instance

/-- What the transfer of step `d` puts at a cell of device `c`: the slot sent or landed, or the share of the sum lent to the transfer. -/
def dmaPay (a : Fin 4) (d : Fin 7) (c : Dev nD) : sProp 𝕄 :=
  match a with
  | 0 => owns (c : Thread nD τ) (slotM pM d.succ) fullShare (part m c (peer c d))
  | 1 => owns (c : Thread nD τ) (slotM rM d.succ) fullShare (part m (peer c d) c)
  | 2 => owns (c : Thread nD τ) gM (Transfers.shareTok fullShare 7 d) (tot m c)
  | 3 => owns (c : Thread nD τ) (slotM aM d.succ) fullShare (tot m (peer c d))

/-- What a cell's duty puts there: at the barrier, the two slots of the signaller that this device's transfer will land in. -/
def pay : Key → Dev nD → Fin 7 → sProp 𝕄
  | none, c, d => iprop(free (F := F) rM (rv d).succ (peer c d) ∗ free (F := F) aM (rv d).succ (peer c d))
  | some (a, s), c, _ => Fin.cases iprop(emp) (fun d => dmaPay m a d c) s

theorem pay_bar (c : Dev nD) (d : Fin 7) :
    pay m none c d = iprop(free (F := F) rM (rv d).succ (peer c d) ∗ free (F := F) aM (rv d).succ (peer c d)) := rfl

/-- The duties of a cell: seven signals at the barrier; one transfer at each semaphore of a slot in use (slot zero never is). -/
def dut : Key → Finset (Fin 7)
  | none => Finset.univ
  | some (a, s) => if s = 0 then ∅ else {0}

def amt : Key → ℕ
  | none => 1
  | some _ => N

theorem amt_pos (k : Key) : 0 < amt k := by
  rcases k with _ | p
  · exact Nat.one_pos
  · exact N_pos

instance dmaPay_storable (a : Fin 4) (d : Fin 7) (c : Dev nD) : BI.Storable (upEmb : UEmb _ 𝕄) (dmaPay m a d c) := by
  unfold dmaPay; fin_cases a <;> infer_instance

instance pay_storable (k : Key) (c : Dev nD) (d : Fin 7) : BI.Storable (upEmb : UEmb _ 𝕄) (pay m k c d) := by
  rcases k with _ | ⟨a, s⟩
  · unfold pay; infer_instance
  · induction s using Fin.cases with
    | zero => exact inferInstanceAs (BI.Storable (upEmb : UEmb _ 𝕄) iprop(emp))
    | succ d => exact dmaPay_storable m a d c

/-- One round per cell. -/
def rd : Schedule (GSem nD τ sig) (Fin 7) 𝕄 where
  duties g r := if r = 0 ∧ g.1.2 = .tc then (role g.2).elim ∅ dut else ∅
  unitless _ := False
  amount g _ _ := (role g.2).elim 1 amt
  payload g _ d := (role g.2).elim iprop(emp) fun k => pay m k g.1.1 d
  amount_pos g r d _ := by
    cases role g.2 with
    | none => exact Nat.one_pos
    | some k => exact amt_pos k

instance rd_payload_storable (g : GSem nD τ sig) (r : ℕ) (d : Fin 7) :
    BI.Storable (upEmb : UEmb _ 𝕄) ((rd (F := F) m).payload g r d) := by
  show BI.Storable (upEmb : UEmb _ 𝕄) ((role g.2).elim iprop(emp) fun k => pay m k g.1.1 d)
  cases role g.2 with
  | none => exact inferInstanceAs (BI.Storable (upEmb : UEmb _ 𝕄) iprop(emp))
  | some k => exact pay_storable m k g.1.1 d

theorem duties_cell (k : Key) (c : Dev nD) : (rd (F := F) m).duties (cell k c) 0 = dut k := by
  show (if (0 : ℕ) = 0 ∧ ((c : Thread nD τ).2 = .tc) then (role (csem k)).elim ∅ dut else ∅) = dut k
  rw [if_pos ⟨rfl, rfl⟩, role_csem]; rfl

theorem duties_later (g : GSem nD τ sig) : ∀ r : ℕ, 1 ≤ r → (rd (F := F) m).duties g r = ∅ := fun r hr => if_neg fun h => by omega

theorem duties_zero_slot (a : Fin 4) (c : Dev nD) : ∀ r : ℕ, 0 ≤ r → (rd (F := F) m).duties (cell (some (a, 0)) c) r = ∅ := fun r _ => by
  rcases Nat.eq_zero_or_pos r with rfl | h
  · rw [duties_cell]; rfl
  · exact duties_later m _ r h

theorem amount_cell (k : Key) (c : Dev nD) (r : ℕ) (d : Fin 7) : (rd (F := F) m).amount (cell k c) r d = amt k := by
  show (role (csem k)).elim 1 amt = amt k
  rw [role_csem]; rfl

theorem payload_cell (k : Key) (c : Dev nD) (r : ℕ) (d : Fin 7) : (rd (F := F) m).payload (cell k c) r d = pay m k c d := by
  show (role (csem k)).elim iprop(emp) (fun k => pay m k c d) = pay m k c d
  rw [role_csem]; rfl

theorem payload_key (a : Fin 4) (d : Fin 7) (c : Dev nD) (r : ℕ) (e : Fin 7) :
    (rd (F := F) m).payload (cell (key a d) c) r e = dmaPay m a d c := by
  rw [payload_cell]; rfl

theorem duties_key (a : Fin 4) (d : Fin 7) (c : Dev nD) : (rd (F := F) m).duties (cell (key a d) c) 0 = {0} := by
  rw [duties_cell]
  show (if d.succ = 0 then (∅ : Finset (Fin 7)) else {0}) = {0}
  exact if_neg (Fin.succ_ne_zero d)

theorem expect_bar (c : Dev nD) : (rd (F := F) m).expect (cell none c) 0 = 7 := by
  unfold Schedule.expect Schedule.amountOf
  rw [duties_cell, Finset.sum_congr rfl fun d _ => amount_cell m none c 0 d]; rfl

theorem expect_key (a : Fin 4) (d : Fin 7) (c : Dev nD) : (rd (F := F) m).expect (cell (key a d) c) 0 = N := by
  unfold Schedule.expect Schedule.amountOf
  rw [duties_key, Finset.sum_singleton, amount_cell]; rfl

theorem rest_bar (c : Dev nD) : (bigSep ((rd (F := F) m).duties (cell none c) 0 \ ∅) fun d => (rd (F := F) m).payload (cell none c) 0 d : sProp 𝕄)
    = bigSep Finset.univ fun d => pay m none c d := by
  rw [duties_cell, Finset.sdiff_empty]
  exact bigSep_congr fun d _ => payload_cell m none c 0 d

theorem rest_key (a : Fin 4) (d : Fin 7) (c : Dev nD) :
    (bigSep ((rd (F := F) m).duties (cell (key a d) c) 0 \ ∅) fun e => (rd (F := F) m).payload (cell (key a d) c) 0 e : sProp 𝕄)
    = dmaPay m a d c := by
  rw [duties_key, Finset.sdiff_empty, bigSep_singleton, payload_key]

/-! ## What a device owes, and the levels -/

/-- The signals of the steps from `k` on. -/
def Obar (c : Dev nD) (k : ℕ) : CellTallies nD τ sig Unit := ∑ r ∈ todo k, tallyAt (cell none (peer c r)) () 1
/-- The landings, at array `a`, of the steps from `k` on. -/
def Odma (a : Fin 4) (c : Dev nD) (k : ℕ) : CellTallies nD τ sig Unit := ∑ r ∈ todo k, tallyAt (cell (key a (rv r)) (peer c r)) () N

/-- What a device owes at the start: its landings in the gather, its landings in the exchange, its signals. -/
def O₀ (c : Dev nD) : CellTallies nD τ sig Unit := Odma 3 c 0 + Odma 1 c 0 + Obar c 0

theorem Obar_succ (c : Dev nD) (k : ℕ) (hk : k < 7) :
    Obar c k = Obar c (k + 1) + tallyAt (cell none (peer c ⟨k, hk⟩)) () 1 := by
  unfold Obar; rw [todo_succ k hk, Finset.sum_insert (notMem_todo k hk), add_comm]
theorem Odma_succ (a : Fin 4) (c : Dev nD) (k : ℕ) (hk : k < 7) :
    Odma a c k = Odma a c (k + 1) + tallyAt (cell (key a (rv ⟨k, hk⟩)) (peer c ⟨k, hk⟩)) () N := by
  unfold Odma; rw [todo_succ k hk, Finset.sum_insert (notMem_todo k hk), add_comm]
theorem Obar_end (c : Dev nD) : Obar c 7 = 0 := by unfold Obar; rw [todo_seven, Finset.sum_empty]
theorem Odma_end (a : Fin 4) (c : Dev nD) : Odma a c 7 = 0 := by unfold Odma; rw [todo_seven, Finset.sum_empty]

theorem sum_tally_pos {s : Finset (Fin 7)} {g : Fin 7 → GSem nD τ sig} {n : ℕ} {g' : GSem nD τ sig} {u : Unit}
    (h : 0 < (∑ r ∈ s, (tallyAt (g r) () n : CellTallies nD τ sig Unit)) g' u) : ∃ r ∈ s, g' = g r := by
  by_contra hne
  refine absurd h (Nat.not_lt.mpr (Nat.le_of_eq ?_))
  rw [Finset.sum_apply, Finsupp.finset_sum_apply]
  exact Finset.sum_eq_zero fun r hr => by
    rw [tallyAt_apply]; exact if_neg fun e => hne ⟨r, hr, e.1⟩

/-- The level of a cell: the waits go barrier, exchange, gather. -/
def lvK : Key → ℕ
  | none => 1
  | some (a, _) => match a with | 0 => 0 | 1 => 2 | 2 => 0 | 3 => 3

def lv : GSem nD τ sig → Unit → ℕ := fun g _ => (role g.2).elim 0 lvK

/-- The (cell, index) pairs carrying a level: the TensorCores' cells. -/
def L : GSem nD τ sig → Finset Unit := fun g => if g.1.2 = .tc then {()} else ∅

theorem L_of_ne (g : GSem nD τ sig) (h : g.1.2 ≠ .tc) : L g = ∅ := if_neg h
theorem mem_L (c : Dev nD) (sm : SemLoc sig) (u : Unit) : u ∈ L ((c : Thread nD τ), sm) := by
  have : u = () := rfl
  rw [this]; show () ∈ (if _ then _ else _); rw [if_pos rfl]; exact Finset.mem_singleton_self _

theorem lv_cell (k : Key) (c : Dev nD) (u : Unit) : lv (cell k c) u = lvK k := by
  show (role (csem k)).elim 0 lvK = lvK k
  rw [role_csem]; rfl

/-- A tally all of whose cells lie above level `n` on the TensorCores. -/
def Above (n : ℕ) (O : CellTallies nD τ sig Unit) : Prop := ∀ g u, 0 < O g u → u ∈ L g ∧ n < lv g u

theorem Above.add {n : ℕ} {O O' : CellTallies nD τ sig Unit} (h : Above n O) (h' : Above n O') : Above n (O + O') := fun g u hp => by
  rcases Nat.eq_zero_or_pos (O g u) with h0 | h0
  · exact h' g u (by
      have : (O + O') g u = O g u + O' g u := rfl
      omega)
  · exact h g u h0

theorem Above.zero (n : ℕ) : Above n (0 : CellTallies nD τ sig Unit) := fun g u h => absurd h (Nat.lt_irrefl 0)

theorem above_bar (c : Dev nD) (k n : ℕ) (hn : n < 1) : Above n (Obar c k) := fun g u h => by
  obtain ⟨r, -, rfl⟩ := sum_tally_pos h
  exact ⟨mem_L _ _ u, by rw [lv_cell]; exact hn⟩

theorem above_dma (a : Fin 4) (c : Dev nD) (k n : ℕ) (hn : n < lvK (some (a, 0))) : Above n (Odma a c k) := fun g u h => by
  obtain ⟨r, -, rfl⟩ := sum_tally_pos h
  exact ⟨mem_L _ _ u, by rw [lv_cell]; exact hn⟩

/-- A device may wait at a cell of level at most `n` while it owes only above `n`. -/
theorem mayWait (c : Dev nD) (sm : SemLoc sig) (n : ℕ) (hsm : lv ((c : Thread nD τ), sm) () ≤ n) (O : CellTallies nD τ sig Unit)
    (hO : Above n O) : (levAts L lv : sProp 𝕄) ⊢ MayWait (c : Thread nD τ) sm () O :=
  MayOwe.of_cut (L := L) (lev := lv) n (fun p hp => mem_L c p.1 p.2) (fun g u h => (hO g u h).1)
    (fun p hp => by rw [Finset.mem_singleton.mp hp]; exact hsm) (fun g u h => (hO g u h).2)

theorem above_O₀ (c : Dev nD) : Above 0 (O₀ c) :=
  ((above_dma 3 c 0 0 (by decide)).add (above_dma 1 c 0 0 (by decide))).add (above_bar c 0 0 (by decide))

end Cert.KernelIdealProof
-- ==== Proof.Steps.lean ====
/-
# 01_k: the steps of the kernel

One lemma per kind of step of the kernel's body (a signal, the barrier's wait, a computed slot sent, a landing awaited, a
slot read, a sum sent, a sum gathered), each proved once for every step number and stated over what the steps still
to do and the steps done hold.
-/
module

public import proofs.«01_k».proof.Proof.Proto

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a device's program. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What the device owes, whatever it has waited at. -/
def ow (c : Dev nD) (O : CellTallies nD τ sig Unit) : sProp 𝕄 := iprop(∃ W : Waits sig Unit, owes (c : Thread nD τ) O W)

section Steps

variable (K : Dev nD × Key → ℕ)

/-- Every cell's invariant, and that every cell has reached its round. -/
def records : sProp 𝕄 :=
  iprop((bigSep Finset.univ fun p : Dev nD × Key => cellInv ER (rd m) (K p) (cell p.2 p.1))
    ∗ bigSep Finset.univ fun p : Dev nD × Key => reached ER (cell p.2 p.1) 0)

instance records_persistent : BI.Persistent (records m K) := by unfold records; infer_instance

theorem records_inv (k : Key) (c : Dev nD) : records m K ⊢ cellInv ER (rd m) (K (c, k)) (cell k c) := by
  unfold records
  iintro ⟨H, -⟩
  iapply (family_at (Finset.mem_univ ((c, k) : Dev nD × Key)) (Φ := fun p : Dev nD × Key => (cellInv ER (rd m) (K p) (cell p.2 p.1) : sProp 𝕄)))
  iexact H

theorem records_reached (k : Key) (c : Dev nD) : records m K ⊢ reached ER (cell k c) 0 := by
  unfold records
  iintro ⟨-, H⟩
  iapply (family_at (Finset.mem_univ ((c, k) : Dev nD × Key)) (Φ := fun p : Dev nD × Key => (reached ER (cell p.2 p.1) 0 : sProp 𝕄)))
  iexact H

variable {α : Type} {Q : α → sProp (MT nD τ sig Unit (Elt F) ℕ UU ℕ)} {kk : PUnit → Prog (TpuEff nD τ sig (Elt F) Λ₀ .tc) α}

/-! ## The barrier -/

/-- What the signal of step `r` takes: the duty at the peer, and this device's two slots the peer's transfers land in. -/
def sigRes (c : Dev nD) (r : Fin 7) : sProp 𝕄 :=
  iprop(dutyTok ER (cell none (peer c r)) 0 (rv r) ∗ free (F := F) rM r.succ c ∗ free (F := F) aM r.succ c)

/-- The signals, `k` of them made, owing `O` besides. -/
def sigSt (c : Dev nD) (O : CellTallies nD τ sig Unit) (k : ℕ) : sProp 𝕄 :=
  iprop(ow (F := F) c (O + Obar c k) ∗ bigSep (todo k) (sigRes (F := F) c))

/-- A signal to the peer of step `k`. -/
theorem sig_step (c : Dev nD) (k : ℕ) (hk : k < 7) (O : CellTallies nD τ sig Unit) (n : Dev nD) (hn : n = peer c ⟨k, hk⟩) :
    iprop(records m K ∗ sigSt (F := F) c O k)
      ⊢ iprop((sigSt (F := F) c O (k + 1) -∗ WP c (kk ⟨⟩) Q)
          -∗ WP c (.op (.semSignal (n : Thread nD τ) barS ((1 : ℕ) : ℤ)) kk) Q) := by
  unfold sigSt
  subst hn
  rw [bigSep_todo k hk, Obar_succ c k hk, ← add_assoc]
  unfold sigRes ow
  iintro ⟨#HR, ⟨%W, HO⟩, ⟨Ht, Hr, Ha⟩, Hrest⟩ Hk
  iapply (Rounds.wp_signal 𝒱₀ ER (rd m) (c : Thread nD τ) none (dst := (peer c ⟨k, hk⟩ : Thread nD τ)) (κ := K (peer c ⟨k, hk⟩, none))
      (d := rv ⟨k, hk⟩) (r := 0) (by rw [show (rd m).duties ((peer c ⟨k, hk⟩ : Thread nD τ), .reg barS) 0 = Finset.univ from duties_cell m none _]; exact Finset.mem_univ _) ((amount_cell m none _ 0 _).trans rfl) ()
      (O + Obar c (k + 1)) rfl) $$ [HO Ht Hr Ha]
  · isplitr; · iapply (records_inv m K none (peer c ⟨k, hk⟩)); iexact HR
    isplitl [HO]; · iexact HO
    isplitl [Ht]; · iexact Ht
    isplitl [Hr Ha]
    · rw [show (rd m).payload ((peer c ⟨k, hk⟩ : Thread nD τ), .reg barS) 0 (rv ⟨k, hk⟩) = _ from payload_cell m none _ 0 _, pay_bar, peer_rv, rv_rv]
      isplitl [Hr] <;> iassumption
    · iapply (records_reached m K none (peer c ⟨k, hk⟩)); iexact HR
  iintro HO
  iapply Hk
  isplitl [HO]
  · iexists W; iexact HO
  iexact Hrest

/-- The wait for the seven signals: the slots of the others that this device's transfers land in. -/
theorem bar_wait (c : Dev nD) (O : CellTallies nD τ sig Unit) (hO : Above 1 O) :
    iprop(records m K ∗ levAts L lv ∗ ow (F := F) c O ∗ cred (tallyAt (cell none c) () 7) ∗ atPos ER (cell none c) 0 ∅ 0)
      ⊢ iprop(((ow (F := F) c O ∗ atPos ER (cell none c) 1 ∅ 0 ∗ bigSep Finset.univ fun d => pay m none c d) -∗ WP c (kk ⟨⟩) Q)
          -∗ WP c (.op (.semWait barS ((7 : ℕ) : ℤ)) kk) Q) := by
  unfold ow
  iintro ⟨#HR, #Hlev, ⟨%W, HO⟩, Hc, Hat⟩ Hk
  iapply (Rounds.wp_wait_rest_token 𝒱₀ ER (rd m) (c : Thread nD τ) none (κ := K (c, none))
      (wpE_semWait_eq 𝒱₀ (c : Thread nD τ) none Set.univ) (Set.mem_univ _) () (O := O) (W := W) (R := 0) (m := 0) (T := ∅)
      (by rw [Nat.zero_add]; exact (expect_bar m c).symm)) $$ [Hc HO Hat]
  · isplitr; · iapply (records_inv m K none c); iexact HR
    isplitl [Hc]; · iexact Hc
    isplitl [HO]; · iexact HO
    isplitr; · iapply (mayWait c (.reg barS) 1 (by rw [show lv ((c : Thread nD τ), .reg barS) () = lvK none from lv_cell none c ()]; decide) O hO); iexact Hlev
    iexact Hat
  iintro ⟨HO, Hat, -, Hpay⟩
  ihave Hp := (Entails.of_eq (rest_bar m c)) $$ Hpay
  iapply Hk
  isplitl [HO]
  · iexists _; iexact HO
  isplitl [Hat]; · iexact Hat
  iexact Hp

/-! ## A landing awaited -/

/-- What a wait for the transfer of step `d` at array `a` takes. -/
def waitRes (a : Fin 4) (c : Dev nD) (d : Fin 7) : sProp 𝕄 :=
  iprop(cred (tallyAt (cell (key a d) c) () N) ∗ atPos ER (cell (key a d) c) 0 ∅ 0)

/-- What it leaves. -/
def waitDone (a : Fin 4) (c : Dev nD) (d : Fin 7) : sProp 𝕄 :=
  iprop(dmaPay m a d c ∗ atPos ER (cell (key a d) c) 1 ∅ 0)

/-- The wait for the transfer of step `d` at array `a`. -/
theorem dma_wait (c : Dev nD) (a : Fin 4) (d : Fin 7) (O : CellTallies nD τ sig Unit) (hO : Above (lvK (key a d)) O)
    {s' : Shape} {e' : EltTy} {src : Memref sig .tc .vmem s' e'} {dst : Memref sig .tc .vmem S128x1024 .bf16} (hN : dst.view.dmaCredit = N)
    {hsrc : src.view.WordExact} {hdst : dst.view.WordExact} :
    iprop(records m K ∗ levAts L lv ∗ ow (F := F) c O ∗ waitRes (F := F) a c d)
      ⊢ iprop(((ow (F := F) c O ∗ waitDone m a c d) -∗ WP c (kk ⟨⟩) Q)
          -∗ WP c (.op (.waitDma2 (semOf a d.succ) src dst hsrc hdst) kk) Q) := by
  unfold ow waitRes waitDone
  iintro ⟨#HR, #Hlev, ⟨%W, HO⟩, Hc, Hat⟩ Hk
  iapply (Rounds.wp_wait_rest_token 𝒱₀ ER (rd m) (c : Thread nD τ) none (κ := K (c, key a d))
      (wpE_waitDma2_eq 𝒱₀ (c : Thread nD τ) none Set.univ) (Set.mem_univ _) () (O := O) (W := W) (R := 0) (m := 0) (T := ∅)
      (by rw [Nat.zero_add, hN]; exact (expect_key m a d c).symm)) $$ [Hc HO Hat]
  · isplitr; · iapply (records_inv m K (key a d) c); iexact HR
    isplitl [Hc]; · rw [hN]; iexact Hc
    isplitl [HO]; · iexact HO
    isplitr
    · iapply (mayWait c (csem (key a d)) (lvK (key a d)) (by rw [show lv ((c : Thread nD τ), csem (key a d)) () = lvK (key a d) from lv_cell (key a d) c ()]) O hO)
      iexact Hlev
    iexact Hat
  iintro ⟨HO, Hat, -, Hpay⟩
  ihave Hp := (Entails.of_eq (rest_key m a d c)) $$ Hpay
  iapply Hk
  isplitl [HO]
  · iexists _; iexact HO
  isplitl [Hp]; · iexact Hp
  iexact Hat

/-- A run of waits at one array, `k` of them made: `σ` says which step each waits for. -/
def wSt (a : Fin 4) (σ : Fin 7 → Fin 7) (O : CellTallies nD τ sig Unit) (c : Dev nD) (k : ℕ) : sProp 𝕄 :=
  iprop(ow (F := F) c O ∗ (bigSep (todo k) fun r => waitRes (F := F) a c (σ r)) ∗ bigSep (done k) fun r => waitDone m a c (σ r))

/-- The next wait of the run. -/
theorem wait_step (a : Fin 4) (σ : Fin 7 → Fin 7) (O : CellTallies nD τ sig Unit) (c : Dev nD) (k : ℕ) (hk : k < 7)
    (hO : Above (lvK (some (a, 0))) O)
    {s' : Shape} {e' : EltTy} {src : Memref sig .tc .vmem s' e'} {dst : Memref sig .tc .vmem S128x1024 .bf16} (hN : dst.view.dmaCredit = N)
    {hsrc : src.view.WordExact} {hdst : dst.view.WordExact} :
    iprop(records m K ∗ levAts L lv ∗ wSt m a σ O c k)
      ⊢ iprop((wSt m a σ O c (k + 1) -∗ WP c (kk ⟨⟩) Q)
          -∗ WP c (.op (.waitDma2 (semOf a (σ ⟨k, hk⟩).succ) src dst hsrc hdst) kk) Q) := by
  unfold wSt
  rw [bigSep_todo k hk, bigSep_done k hk]
  iintro ⟨#HR, #Hlev, HO, ⟨Hw, Hrest⟩, Hd⟩ Hk
  iapply (dma_wait m K c a (σ ⟨k, hk⟩) O hO hN) $$ [HO Hw]
  · isplitr; · iexact HR
    isplitr; · iexact Hlev
    isplitl [HO] <;> iassumption
  iintro ⟨HO, Hw⟩
  iapply Hk
  isplitl [HO]; · iexact HO
  isplitl [Hrest]; · iexact Hrest
  isplitl [Hw] <;> iassumption

/-! ## A transfer -/

/-- A transfer to the peer of step `r`: the source, and the destination slot at any contents, are given up; the destination
    will hold what the source holds. -/
theorem send_step (c : Dev nD) (r : Fin 7) (n : Dev nD) (hn : n = peer c r) (a a' : Fin 4)
    {src dst : Memref sig .tc .vmem S128x1024 .bf16} {q : PosShare TreeShare} {X : S128x1024.Idx → Elt F .bf16} (hN : dst.view.dmaCredit = N)
    (hpay : dmaPay m a r c = owns (c : Thread nD τ) src q X) (hpay' : dmaPay m a' (rv r) (peer c r) = owns (peer c r : Thread nD τ) dst fullShare X)
    (O : CellTallies nD τ sig Unit)
    {hsc : (dst : Memref sig (Dev.tc n : Thread nD τ).2.kind .vmem S128x1024 .bf16).view.ref.isScScratch = false}
    {hsrc : src.view.WordExact} {hdst : dst.view.WordExact}
    {hsem : DmaTarget.Typed .vmem (.dma (semOf a' (rv r).succ)) (.remote (Dev.tc n : Thread nD τ) dst (.dma (semOf a r.succ)) hsc)} :
    iprop(records m K ∗ owns (c : Thread nD τ) src q X
        ∗ (∃ f : Buf (Elt F) (dst.view.loc (peer c r : Thread nD τ)), dst.view.loc (peer c r : Thread nD τ) ↦[dst.view.set]{fullShare} f)
        ∗ ow (F := F) c (O + tallyAt (cell (key a' (rv r)) (peer c r)) () N)
        ∗ dutyTok ER (cell (key a r) c) 0 0 ∗ dutyTok ER (cell (key a' (rv r)) (peer c r)) 0 0)
      ⊢ iprop(((cred (tallyAt (cell (key a r) c) () N) ∗ ow (F := F) c O) -∗ WP c (kk ⟨⟩) Q)
          -∗ WP c (.op (.enqueueDma src (.remote (Dev.tc n : Thread nD τ) dst (.dma (semOf a r.succ)) hsc) (.dma (semOf a' (rv r).succ)) hsrc hdst hsem) kk) Q) := by
  subst hn
  unfold ow owns
  iintro ⟨#HR, ⟨%fs, %hX, Hs⟩, ⟨%fd, Hd⟩, ⟨%W, HO⟩, Ht, Ht'⟩ Hk
  iapply (Rounds.wp_send_pointsTo 𝒱₀ ER (rd m) (c : Thread nD τ) none (κ₁ := K (c, key a r)) (κ₂ := K (peer c r, key a' (rv r)))
    (r₁ := 0) (r₂ := 0) (d₁ := 0) (d₂ := 0) (fs := fs) (fd := fd)
    (by rw [show (rd m).duties ((c : Thread nD τ), .dma (semOf a r.succ)) 0 = {0} from duties_key m a r c]; exact Finset.mem_singleton_self _)
    (by rw [show (rd m).duties ((peer c r : Thread nD τ), .dma (semOf a' (rv r).succ)) 0 = {0} from duties_key m a' (rv r) (peer c r)]
        exact Finset.mem_singleton_self _)
    () () N (show dst.view.amount (.dma (semOf a' (rv r).succ)) = N from hN) (amount_cell m (key a r) c 0 0) (amount_cell m (key a' (rv r)) (peer c r) 0 0) O rfl (W := W)
    (by
      rw [show (rd m).payload ((c : Thread nD τ), .dma (semOf a r.succ)) 0 0 = _ from payload_key m a r c 0 0, hpay]
      unfold owns; iintro H; iexists fs; isplitr; · (ipureintro; exact hX)
      iexact H)
    (by
      rw [show (rd m).payload ((peer c r : Thread nD τ), .dma (semOf a' (rv r).succ)) 0 0 = _ from payload_key m a' (rv r) (peer c r) 0 0, hpay']
      unfold owns; iintro H; iexists _; isplitr; swap; · iexact H
      ipureintro; rw [View.read_write_univ]; exact hX)) $$ [Hs Hd HO Ht Ht']
  · isplitr; · iapply (records_inv m K (key a r) c); iexact HR
    isplitr; · iapply (records_inv m K (key a' (rv r)) (peer c r)); iexact HR
    isplitl [Hs]; · iexact Hs
    isplitl [Hd]; · iexact Hd
    isplitl [HO]; · iexact HO
    isplitl [Ht]; · iexact Ht
    isplitr; · iapply (records_reached m K (key a r) c); iexact HR
    isplitl [Ht']; · iexact Ht'
    iapply (records_reached m K (key a' (rv r)) (peer c r)); iexact HR
  iintro ⟨Hc, HO⟩
  iapply Hk
  isplitl [Hc]; · iexact Hc
  iexists W; iexact HO

end Steps

end Cert.KernelIdealProof
-- ==== Proof.Chunk.lean ====
/-
# 01_k: loads, stores and the steps of the exchange

A load of a buffer held whole, a load and a store of one slot, and one step of the exchange, for every step number.
-/
module

public import proofs.«01_k».proof.Proof.Steps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Chunks

variable (K : Dev nD × Key → ℕ)
variable {α : Type} {Q : α → sProp (MT nD τ sig Unit (Elt F) ℕ UU ℕ)}

/-! ## Loads and stores -/

/-- A whole buffer of a device. -/
abbrev pts (c : Dev nD) (b : Ref sig .tc) (f : b.ty.Contents (Elt F)) : sProp 𝕄 := ((c : Thread nD τ).loc b) ↦{fullShare} f

/-- A load of a rectangle of a buffer held whole. -/
theorem load_rect (c : Dev nD) {s : Shape} {e : EltTy} (M : Memref sig .tc .vmem s e) (r : Rect s) {hl : M.view.LoadsAt r.toLoadRect}
    {kk : (r.toLoadRect.shape.Idx → Elt F e) → Prog (TpuEff nD τ sig (Elt F) Λ₀ .tc) α} (f : Buf (Elt F) (M.view.loc (c : Thread nD τ))) :
    (M.view.loc (c : Thread nD τ) ↦{fullShare} f)
      ⊢ iprop(((M.view.loc (c : Thread nD τ) ↦{fullShare} f) -∗ WP c (kk (M.view.readAt (Elt F) r.toLoadRect f)) Q)
          -∗ WP c (.op (.load M r.toLoadRect hl) kk) Q) :=
  wp_load 𝒱₀ (c : Thread nD τ) none Set.univ (m := M) (Finset.subset_univ _)

theorem slot_set (b : Memref sig .tc .vmem S8x128x1024 .bf16) (s : Fin 8) : (b.access (slotR s)).set = (slotM b s).view.set :=
  (View.set_reshape _ _).symm

/-- A load of one slot. -/
theorem slot_get (c : Dev nD) (b : Memref sig .tc .vmem S8x128x1024 .bf16) (s : Fin 8) (X : FVec F S128x1024 .bf16)
    {hl : b.view.LoadsAt (slotR s).toLoadRect}
    {kk : ((slotR s).toLoadRect.shape.Idx → Elt F .bf16) → Prog (TpuEff nD τ sig (Elt F) Λ₀ .tc) α} :
    iprop(owns (c : Thread nD τ) (slotM b s) fullShare X)
      ⊢ iprop((owns (c : Thread nD τ) (slotM b s) fullShare X -∗ WP c (kk (unsq X)) Q)
          -∗ WP c (.op (.load b (slotR s).toLoadRect hl) kk) Q) := by
  unfold owns
  iintro ⟨%f, %hX, Hf⟩ Hk
  iapply (wp_load_rect 𝒱₀ (c : Thread nD τ) none Set.univ (m := b) (r := slotR s) (S := (slotM b s).view.set) (Finset.subset_of_eq (slot_set b s))) $$ Hf
  iintro Hf
  have hr : (b.access (slotR s)).read (Elt F) f = unsq X := by
    rw [← hX]; exact (unsq_sq _).symm
  rw [hr]
  iapply Hk
  iexists f
  isplitr; · (ipureintro; exact hX)
  iexact Hf

/-- A slot at any contents, loaded and then stored. -/
theorem slot_put (c : Dev nD) (b : Memref sig .tc .vmem S8x128x1024 .bf16) (s : Fin 8) (X : FVec F S128x1024 .bf16)
    {hl : b.view.LoadsAt (slotR s).toLoadRect} {hx : (b.access (slotR s)).Stores Finset.univ}
    {hm : Finset.univ = Finset.univ ∨ ∀ a, (slotR s).stride a = 1}
    {kk : PUnit → Prog (TpuEff nD τ sig (Elt F) Λ₀ .tc) α} :
    free (F := F) b s c
      ⊢ iprop((owns (c : Thread nD τ) (slotM b s) fullShare X -∗ WP c (kk ⟨⟩) Q)
          -∗ WP c (.op (.load b (slotR s).toLoadRect hl) fun _ => .op (.store b (slotR s) (unsq X) Finset.univ hx hm) kk) Q) := by
  unfold owns free
  iintro ⟨%f, Hf⟩ Hk
  iapply (wp_load_rect 𝒱₀ (c : Thread nD τ) none Set.univ (m := b) (r := slotR s) (S := (slotM b s).view.set) (Finset.subset_of_eq (slot_set b s))) $$ Hf
  iintro Hf
  iapply (wp_store 𝒱₀ (c : Thread nD τ) none Set.univ (m := b) (r := slotR s) (Mk := Finset.univ) (S := (slotM b s).view.set) (Finset.subset_of_eq (slot_set b s))) $$ Hf
  iintro Hf
  iapply Hk
  iexists _
  isplitr; swap; · iexact Hf
  ipureintro
  show sq ((b.access (slotR s)).read (Elt F) ((b.access (slotR s)).write (Elt F) f (unsq X) Finset.univ)) = X
  rw [View.read_write_univ]
  exact sq_unsq X

/-! ## A step of the exchange -/

/-- What lands at the peer in the exchange is what this device sends it. -/
theorem landing (c : Dev nD) (r : Fin 7) :
    dmaPay m 1 (rv r) (peer c r) = owns (peer c r : Thread nD τ) (slotM rM (rv r).succ) fullShare (part m c (peer c r)) := by
  unfold dmaPay
  simp only [peer_rv]

/-- The operands a device computes from. -/
def opnds (c : Dev nD) : sProp 𝕄 :=
  iprop(pts c cc0_stg0_0 (xs m c) ∗ pts c cc0_stg1_0 (ids m c) ∗ pts c cc0_scratch0 (ws m c))

/-- What step `r` of the exchange takes: the slot to send from, the slot to land in, and the two duties. -/
def chRes (c : Dev nD) (r : Fin 7) : sProp 𝕄 :=
  iprop(free (F := F) pM r.succ c ∗ free (F := F) rM (rv r).succ (peer c r)
    ∗ dutyTok ER (cell (key 0 r) c) 0 0 ∗ dutyTok ER (cell (key 1 (rv r)) (peer c r)) 0 0)

/-- The exchange with `k` steps made. -/
def chSt (O : CellTallies nD τ sig Unit) (c : Dev nD) (k : ℕ) : sProp 𝕄 :=
  iprop(ow (F := F) c (O + Odma 1 c k) ∗ opnds m c ∗ (bigSep (todo k) (chRes (F := F) c))
    ∗ bigSep (done k) fun r => cred (tallyAt (cell (key 0 r) c) () N))

/-- The exchange's step `k`: the peer's rows computed, stored in a slot and sent. -/
theorem chunk_step (O : CellTallies nD τ sig Unit) (c : Dev nD) (k : ℕ) (hk : k < 7) (n : Dev nD) (hn : n = peer c ⟨k, hk⟩)
    {off1 off2 : Fin 2 → ℕ} (h1 : off1 = ![128 * (peer c ⟨k, hk⟩).val, 0]) (h2 : off2 = ![128 * (peer c ⟨k, hk⟩).val, 0])
    {i1 : ∀ a, off1 a + S128x512.size a ≤ S1024x512.size a} {i2 : ∀ a, off2 a + S128x1.size a ≤ S1024x1.size a}
    {hlx : xM.view.LoadsAt (Rect.unit (s := S1024x512) off1 S128x512.size i1).toLoadRect}
    {hli : iM.view.LoadsAt (Rect.unit (s := S1024x1) off2 S128x1.size i2).toLoadRect}
    {hb0 : bM.view.LoadsAt (bR 0).toLoadRect} {hb1 : bM.view.LoadsAt (bR 1).toLoadRect}
    {hb2 : bM.view.LoadsAt (bR 2).toLoadRect} {hb3 : bM.view.LoadsAt (bR 3).toLoadRect}
    {hl : pM.view.LoadsAt (slotR (⟨k, hk⟩ : Fin 7).succ).toLoadRect} {hx : (pM.access (slotR (⟨k, hk⟩ : Fin 7).succ)).Stores Finset.univ}
    {hm : Finset.univ = Finset.univ ∨ ∀ a, (slotR (⟨k, hk⟩ : Fin 7).succ).stride a = 1}
    {hsc : (slotM rM (rv ⟨k, hk⟩).succ : Memref sig (Dev.tc n : Thread nD τ).2.kind .vmem S128x1024 .bf16).view.ref.isScScratch = false}
    {hsrc : (slotM pM (⟨k, hk⟩ : Fin 7).succ).view.WordExact} {hdst : (slotM rM (rv ⟨k, hk⟩).succ).view.WordExact}
    {hsem : DmaTarget.Typed .vmem (.dma (semOf 1 (rv ⟨k, hk⟩).succ)) (.remote (Dev.tc n : Thread nD τ) (slotM rM (rv ⟨k, hk⟩).succ) (.dma (semOf 0 (⟨k, hk⟩ : Fin 7).succ)) hsc)}
    {kk : Vec F S128x512 .bf16 → Vec F S128x1 .i32 → PUnit → Prog (TpuEff nD τ sig (Elt F) Λ₀ .tc) α} :
    iprop(records m K ∗ chSt m O c k)
      ⊢ iprop((∀ x i, chSt m O c (k + 1) -∗ WP c (kk x i ⟨⟩) Q)
          -∗ WP c (.op (.load xM (Rect.unit (s := S1024x512) off1 S128x512.size i1).toLoadRect hlx) fun x =>
              .op (.load iM (Rect.unit (s := S1024x1) off2 S128x1.size i2).toLoadRect hli) fun i =>
              .op (.load bM (bR 0).toLoadRect hb0) fun w0 => .op (.load bM (bR 1).toLoadRect hb1) fun w1 =>
              .op (.load bM (bR 2).toLoadRect hb2) fun w2 => .op (.load bM (bR 3).toLoadRect hb3) fun w3 =>
              .op (.load pM (slotR (⟨k, hk⟩ : Fin 7).succ).toLoadRect hl) fun _ =>
              .op (.store pM (slotR (⟨k, hk⟩ : Fin 7).succ) (unsq (partOf (meW c) x i w0 w1 w2 w3)) Finset.univ hx hm) fun _ =>
              .op (.enqueueDma (slotM pM (⟨k, hk⟩ : Fin 7).succ)
                (.remote (Dev.tc n : Thread nD τ) (slotM rM (rv ⟨k, hk⟩).succ) (.dma (semOf 0 (⟨k, hk⟩ : Fin 7).succ)) hsc)
                (.dma (semOf 1 (rv ⟨k, hk⟩).succ)) hsrc hdst hsem) (kk x i)) Q) := by
  subst hn h1 h2
  unfold chSt opnds
  rw [bigSep_todo k hk, bigSep_done k hk, Odma_succ 1 c k hk, ← add_assoc]
  unfold chRes
  iintro ⟨#HR, HO, ⟨Hx, Hi, Hb⟩, ⟨⟨Hp, Hr, Ht, Ht'⟩, Hrest⟩, Hd⟩ Hk
  iapply (load_rect c xM (xR (peer c ⟨k, hk⟩)) (xs m c)) $$ Hx
  iintro Hx
  iapply (load_rect c iM (iR (peer c ⟨k, hk⟩)) (ids m c)) $$ Hi
  iintro Hi
  iapply (load_rect c bM (bR 0) (ws m c)) $$ Hb
  iintro Hb
  iapply (load_rect c bM (bR 1) (ws m c)) $$ Hb
  iintro Hb
  iapply (load_rect c bM (bR 2) (ws m c)) $$ Hb
  iintro Hb
  iapply (load_rect c bM (bR 3) (ws m c)) $$ Hb
  iintro Hb
  iapply (slot_put c pM (⟨k, hk⟩ : Fin 7).succ (part m c (peer c ⟨k, hk⟩))) $$ Hp
  iintro Hp
  iapply (send_step m K c ⟨k, hk⟩ _ rfl 0 1 (src := slotM pM (⟨k, hk⟩ : Fin 7).succ) (dst := slotM rM (rv ⟨k, hk⟩).succ) (credit_r _)
    (q := fullShare) (X := part m c (peer c ⟨k, hk⟩)) rfl
    (landing m c ⟨k, hk⟩)
    (O + Odma 1 c (k + 1))) $$ [Hp Hr HO Ht Ht']
  · isplitr; · iexact HR
    isplitl [Hp]; · iexact Hp
    isplitl [Hr]; · unfold free; iexact Hr
    isplitl [HO]; · iexact HO
    isplitl [Ht] <;> iassumption
  iintro ⟨Hc, HO⟩
  iapply Hk
  isplitl [HO]; · iexact HO
  isplitl [Hx Hi Hb]
  · isplitl [Hx]; · iexact Hx
    isplitl [Hi] <;> iassumption
  isplitl [Hrest]; · iexact Hrest
  isplitl [Hc] <;> iassumption

end Chunks

end Cert.KernelIdealProof
-- ==== Proof.Gather.lean ====
/-
# 01_k: the sum and the gather

The landed partial products read, the sum stored and sent, and the eight sums put one below the other in the result.
-/
module

public import proofs.«01_k».proof.Proof.Chunk
public import Idealize.ShloMosaic.Lib.ReshapeSlab

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Gather

variable (K : Dev nD × Key → ℕ)
variable {α : Type} {Q : α → sProp (MT nD τ sig Unit (Elt F) ℕ UU ℕ)}

/-! ## The landed partial products -/

/-- A member of a family over a finite type, and the way to put it back. -/
theorem fam_take {I : Type} [Fintype I] [DecidableEq I] (i : I) (Φ : I → sProp 𝕄) :
    iprop(bigSep Finset.univ Φ) ⊢ iprop(Φ i ∗ (Φ i -∗ bigSep Finset.univ Φ)) := by
  iintro H
  ihave H := (Entails.of_eq (bigSep_univ_at Φ i)) $$ H
  icases H with ⟨H1, H2⟩
  isplitl [H1]; · iexact H1
  iintro H1
  iapply (Entails.of_eq (bigSep_univ_at Φ i).symm)
  isplitl [H1] <;> iassumption

/-- A load of a landed slot, the slots of all seven steps held. -/
theorem landed_get (c : Dev nD) (d : Fin 7) {hl : rM.view.LoadsAt (slotR d.succ).toLoadRect}
    {kk : ((slotR d.succ).toLoadRect.shape.Idx → Elt F .bf16) → Prog (TpuEff nD τ sig (Elt F) Λ₀ .tc) α} :
    iprop(bigSep Finset.univ fun d => waitDone m 1 c d)
      ⊢ iprop(((bigSep Finset.univ fun d => waitDone m 1 c d) -∗ WP c (kk (unsq (part m (peer c d) c))) Q)
          -∗ WP c (.op (.load rM (slotR d.succ).toLoadRect hl) kk) Q) := by
  iintro H Hk
  ihave H := (fam_take d (fun d => waitDone m 1 c d)) $$ H
  icases H with ⟨Hd, Hback⟩
  unfold waitDone dmaPay
  icases Hd with ⟨Hd, Hat⟩
  iapply (slot_get c rM d.succ (part m (peer c d) c)) $$ Hd
  iintro Hd
  iapply Hk
  iapply Hback
  isplitl [Hd] <;> iassumption

/-- A family over the steps, all done, in the order of the other end. -/
theorem done_rv (Φ : Fin 7 → sProp 𝕄) : (bigSep (done 7) fun r => Φ (rv r)) = bigSep Finset.univ Φ := by
  rw [done_seven]; exact (bigSep_univ_equiv rvEquiv Φ).symm

/-! ## The sum stored and sent -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- The sum's buffer loaded and stored. -/
theorem sum_put (c : Dev nD) (f : cc0_scratch3.ty.Contents (Elt F)) (X : FVec F S128x1024 .bf16) {Y : FVec F S128x1024 .bf16} (hY : Y = X)
    {i : ∀ a : Fin 2, (![0, 0] : Fin 2 → ℕ) a + S128x1024.size a ≤ S128x1024.size a}
    {hl : gM.view.LoadsAt (Rect.unit (s := S128x1024) ![0, 0] S128x1024.size i).toLoadRect}
    {hx : (gM.access (Rect.unit (s := S128x1024) ![0, 0] S128x1024.size i)).Stores Finset.univ}
    {hm : Finset.univ = Finset.univ ∨ ∀ a, (Rect.unit (s := S128x1024) ![0, 0] S128x1024.size i).stride a = 1}
    {kk : PUnit → Prog (TpuEff nD τ sig (Elt F) Λ₀ .tc) α} :
    pts c cc0_scratch3 f
      ⊢ iprop((pts c cc0_scratch3 X -∗ WP c (kk ⟨⟩) Q)
          -∗ WP c (.op (.load gM (Rect.unit (s := S128x1024) ![0, 0] S128x1024.size i).toLoadRect hl) fun _ =>
              .op (.store gM (Rect.unit (s := S128x1024) ![0, 0] S128x1024.size i) Y Finset.univ hx hm) kk) Q) := by
  subst hY
  iintro Hf Hk
  iapply (load_rect c gM (Rect.unit (s := S128x1024) ![0, 0] S128x1024.size i) f) $$ Hf
  iintro Hf
  iapply (wp_store 𝒱₀ (c : Thread nD τ) none Set.univ (m := gM) (r := Rect.unit (s := S128x1024) ![0, 0] S128x1024.size i) (Mk := Finset.univ)
    (S := Finset.univ) (Finset.subset_univ _)) $$ Hf
  iintro Hf
  have h : (gM.access (Rect.unit (s := S128x1024) ![0, 0] S128x1024.size i)).write (Elt F) f Y Finset.univ = Y :=
    Memref.write_access_unit_zero_univ (Elt F) cc0_scratch3 hz2 _ f Y
  rw [h]
  iapply Hk
  iexact Hf

/-- The experts staged copied to the buffer the products read. -/
theorem experts_put (c : Dev nD) (f g : cc0_scratch0.ty.Contents (Elt F))
    {i : ∀ a : Fin 3, (![0, 0, 0] : Fin 3 → ℕ) a + S4x512x1024.size a ≤ S4x512x1024.size a}
    {hl : wM.view.LoadsAt (Rect.unit (s := S4x512x1024) ![0, 0, 0] S4x512x1024.size i).toLoadRect}
    {hl' : bM.view.LoadsAt (Rect.unit (s := S4x512x1024) ![0, 0, 0] S4x512x1024.size i).toLoadRect}
    {hx : (bM.access (Rect.unit (s := S4x512x1024) ![0, 0, 0] S4x512x1024.size i)).Stores Finset.univ}
    {hm : Finset.univ = Finset.univ ∨ ∀ a, (Rect.unit (s := S4x512x1024) ![0, 0, 0] S4x512x1024.size i).stride a = 1}
    {kk : PUnit → Prog (TpuEff nD τ sig (Elt F) Λ₀ .tc) α} :
    iprop(pts c cc0_stg2_0 f ∗ pts c cc0_scratch0 g)
      ⊢ iprop(((pts c cc0_stg2_0 f ∗ pts c cc0_scratch0 f) -∗ WP c (kk ⟨⟩) Q)
          -∗ WP c (.op (.load wM (Rect.unit (s := S4x512x1024) ![0, 0, 0] S4x512x1024.size i).toLoadRect hl) fun v =>
              .op (.load bM (Rect.unit (s := S4x512x1024) ![0, 0, 0] S4x512x1024.size i).toLoadRect hl') fun _ =>
              .op (.store bM (Rect.unit (s := S4x512x1024) ![0, 0, 0] S4x512x1024.size i) (k0_pay1 v) Finset.univ hx hm) kk) Q) := by
  iintro ⟨Hf, Hg⟩ Hk
  iapply (load_rect c wM (Rect.unit (s := S4x512x1024) ![0, 0, 0] S4x512x1024.size i) f) $$ Hf
  iintro Hf
  iapply (load_rect c bM (Rect.unit (s := S4x512x1024) ![0, 0, 0] S4x512x1024.size i) g) $$ Hg
  iintro Hg
  iapply (wp_store 𝒱₀ (c : Thread nD τ) none Set.univ (m := bM) (r := Rect.unit (s := S4x512x1024) ![0, 0, 0] S4x512x1024.size i) (Mk := Finset.univ)
    (S := Finset.univ) (Finset.subset_univ _)) $$ Hg
  iintro Hg
  have hr : wM.view.readAt (Elt F) (Rect.unit (s := S4x512x1024) ![0, 0, 0] S4x512x1024.size i).toLoadRect f = f :=
    Memref.readAt_unit_zero (Elt F) cc0_stg2_0 hz3 _ f
  have he : k0_pay1 (F := F) f = f := by
    show shapeCast S4x512x1024 (shapeCast S4x512x1024 f _) _ = f
    exact (shapeCast_self _ _).trans (shapeCast_self _ _)
  have hw : (bM.access (Rect.unit (s := S4x512x1024) ![0, 0, 0] S4x512x1024.size i)).write (Elt F) g
      (k0_pay1 (wM.view.readAt (Elt F) (Rect.unit (s := S4x512x1024) ![0, 0, 0] S4x512x1024.size i).toLoadRect f)) Finset.univ = f := by
    rw [hr, he]; exact Memref.write_access_unit_zero_univ (Elt F) cc0_scratch0 hz3 _ g f
  rw [hw]
  iapply Hk
  isplitl [Hf] <;> iassumption

/-- What step `r` of the gather takes: a share of the sum, the slot to land in, and the two duties. -/
def gaRes (c : Dev nD) (r : Fin 7) : sProp 𝕄 :=
  iprop(owns (c : Thread nD τ) gM (Transfers.shareTok fullShare 7 r) (tot m c) ∗ free (F := F) aM (rv r).succ (peer c r)
    ∗ dutyTok ER (cell (key 2 r) c) 0 0 ∗ dutyTok ER (cell (key 3 (rv r)) (peer c r)) 0 0)

/-- The gather with `k` sends made. -/
def gaSt (c : Dev nD) (k : ℕ) : sProp 𝕄 :=
  iprop(ow (F := F) c (Odma 3 c k) ∗ (bigSep (todo k) (gaRes m c)) ∗ bigSep (done k) fun r => cred (tallyAt (cell (key 2 r) c) () N))

/-- What lands at the peer in the gather is this device's sum. -/
theorem landing_sum (c : Dev nD) (r : Fin 7) :
    dmaPay m 3 (rv r) (peer c r) = owns (peer c r : Thread nD τ) (slotM aM (rv r).succ) fullShare (tot m c) := by
  unfold dmaPay
  simp only [peer_rv]

/-- The gather's send `k`. -/
theorem sum_step (c : Dev nD) (k : ℕ) (hk : k < 7) (n : Dev nD) (hn : n = peer c ⟨k, hk⟩)
    {hsc : (slotM aM (rv ⟨k, hk⟩).succ : Memref sig (Dev.tc n : Thread nD τ).2.kind .vmem S128x1024 .bf16).view.ref.isScScratch = false}
    {hsrc : gM.view.WordExact} {hdst : (slotM aM (rv ⟨k, hk⟩).succ).view.WordExact}
    {hsem : DmaTarget.Typed .vmem (.dma (semOf 3 (rv ⟨k, hk⟩).succ)) (.remote (Dev.tc n : Thread nD τ) (slotM aM (rv ⟨k, hk⟩).succ) (.dma (semOf 2 (⟨k, hk⟩ : Fin 7).succ)) hsc)}
    {kk : PUnit → Prog (TpuEff nD τ sig (Elt F) Λ₀ .tc) α} :
    iprop(records m K ∗ gaSt m c k)
      ⊢ iprop((gaSt m c (k + 1) -∗ WP c (kk ⟨⟩) Q)
          -∗ WP c (.op (.enqueueDma gM
                (.remote (Dev.tc n : Thread nD τ) (slotM aM (rv ⟨k, hk⟩).succ) (.dma (semOf 2 (⟨k, hk⟩ : Fin 7).succ)) hsc)
                (.dma (semOf 3 (rv ⟨k, hk⟩).succ)) hsrc hdst hsem) kk) Q) := by
  subst hn
  unfold gaSt
  rw [bigSep_todo k hk, bigSep_done k hk, Odma_succ 3 c k hk]
  unfold gaRes
  iintro ⟨#HR, HO, ⟨⟨Hg, Ha, Ht, Ht'⟩, Hrest⟩, Hd⟩ Hk
  iapply (send_step m K c ⟨k, hk⟩ _ rfl 2 3 (src := gM) (dst := slotM aM (rv ⟨k, hk⟩).succ) (credit_a _)
    (q := Transfers.shareTok fullShare 7 ⟨k, hk⟩) (X := tot m c) rfl (landing_sum m c ⟨k, hk⟩) (Odma 3 c (k + 1))) $$ [Hg Ha HO Ht Ht']
  · isplitr; · iexact HR
    isplitl [Hg]; · iexact Hg
    isplitl [Ha]; · unfold free; iexact Ha
    isplitl [HO]; · iexact HO
    isplitl [Ht] <;> iassumption
  iintro ⟨Hc, HO⟩
  iapply Hk
  isplitl [HO]; · iexact HO
  isplitl [Hrest]; · iexact Hrest
  isplitl [Hc] <;> iassumption

/-! ## The result put together -/

/-- The rows of a device in the result. -/
abbrev rd1 (q : Dev nD) (f : cc0_stg3_0.ty.Contents (Elt F)) : FVec F S128x1024 .f32 := oM.view.readAt (Elt F) (oR q).toLoadRect f

/-- The index of an element of the result within its device's rows. -/
def rowIx (i : S1024x1024.Idx) : S128x1024.Idx := fun a =>
  ⟨(![(i 0).val % 128, (i 1).val] : Fin 2 → ℕ) a, by
    have h : (i 1).val < 1024 := (i 1).isLt
    fin_cases a
    · exact Nat.mod_lt _ (by decide)
    · exact h⟩

/-- The device whose rows an element of the result lies in. -/
def rowDev (i : S1024x1024.Idx) : Dev nD := ⟨(i 0).val / 128, by
  have h : (i 0).val < 1024 := (i 0).isLt
  show _ < 8
  omega⟩

/-- The result: the rows of every device. -/
def outV : FVec F S1024x1024 .f32 := fun i => rows m (rowDev i) (rowIx i)

/-- A buffer holding the rows of every device is the result. -/
theorem eq_outV (f : cc0_stg3_0.ty.Contents (Elt F)) (h : ∀ q, rd1 q f = rows m q) : f = outV m := by
  funext i
  show f i = rows m (rowDev i) (rowIx i)
  rw [← h]
  show f i = f ((oR (rowDev i)).emb (rowIx i))
  congr 1
  funext a
  apply Fin.ext
  rw [Rect.emb_apply]
  fin_cases a
  · show (i 0).val = 128 * ((i 0).val / 128) + 1 * ((i 0).val % 128); omega
  · show (i 1).val = 0 + 1 * (i 1).val; omega

theorem rd1_self (q : Dev nD) (f : cc0_stg3_0.ty.Contents (Elt F)) (X : FVec F S128x1024 .f32) :
    rd1 q ((oM.access (oR q)).write (Elt F) f X Finset.univ) = X := View.read_write_univ _ _

theorem rd1_other (p q : Dev nD) (h : p ≠ q) (f : cc0_stg3_0.ty.Contents (Elt F)) (X : FVec F S128x1024 .f32) :
    rd1 p ((oM.access (oR q)).write (Elt F) f X Finset.univ) = rd1 p f := by
  refine View.read_slice_write_slice_of_disjoint (v := oM.view) (oR p) (oR q) f X Finset.univ ?_
  refine View.disjoint_slice_of_sep _ (oR p) (oR q) 0 rfl rfl ?_
  have : p.val ≠ q.val := fun e => h (Fin.ext e)
  show 128 * p.val + 128 ≤ 128 * q.val ∨ 128 * q.val + 128 ≤ 128 * p.val
  omega

/-- The result's buffer with the rows of this device and of the first `k` gathered. -/
def outSt (c : Dev nD) (k : ℕ) : sProp 𝕄 :=
  iprop(∃ f : cc0_stg3_0.ty.Contents (Elt F), ⌜rd1 c f = rows m c ∧ ∀ r : Fin 7, r.val < k → rd1 (peer c (rv r)) f = rows m (peer c (rv r))⌝
    ∗ pts c cc0_stg3_0 f)

theorem outSt_end (c : Dev nD) : outSt m c 7 ⊢ pts c cc0_stg3_0 (outV m) := by
  unfold outSt
  iintro ⟨%f, %h, Hf⟩
  have : f = outV m := eq_outV m f fun q => by
    rcases eq_or_peer c q with rfl | ⟨r, rfl⟩
    · exact h.1
    · exact h.2 r r.isLt
  rw [← this]
  iexact Hf

/-- The device's own rows put in the result. -/
theorem own_put (c : Dev nD) (g : cc0_stg3_0.ty.Contents (Elt F)) {off : Fin 2 → ℕ} (ho : off = ![128 * c.val, 0])
    {i : ∀ a, off a + S128x1024.size a ≤ S1024x1024.size a}
    {hl : oM.view.LoadsAt (Rect.unit (s := S1024x1024) off S128x1024.size i).toLoadRect}
    {hx : (oM.access (Rect.unit (s := S1024x1024) off S128x1024.size i)).Stores Finset.univ}
    {hm : Finset.univ = Finset.univ ∨ ∀ a, (Rect.unit (s := S1024x1024) off S128x1024.size i).stride a = 1}
    {kk : PUnit → Prog (TpuEff nD τ sig (Elt F) Λ₀ .tc) α} :
    pts c cc0_stg3_0 g
      ⊢ iprop((outSt m c 0 -∗ WP c (kk ⟨⟩) Q)
          -∗ WP c (.op (.load oM (Rect.unit (s := S1024x1024) off S128x1024.size i).toLoadRect hl) fun _ =>
              .op (.store oM (Rect.unit (s := S1024x1024) off S128x1024.size i) (rows m c) Finset.univ hx hm) kk) Q) := by
  subst ho
  iintro Hf Hk
  iapply (load_rect c oM (oR c) g) $$ Hf
  iintro Hf
  iapply (wp_store 𝒱₀ (c : Thread nD τ) none Set.univ (m := oM) (r := oR c) (Mk := Finset.univ) (S := Finset.univ) (Finset.subset_univ _)) $$ Hf
  iintro Hf
  iapply Hk
  unfold outSt
  iexists _
  isplitr; swap; · iexact Hf
  ipureintro
  exact ⟨rd1_self c g (rows m c), fun r hr => absurd hr (Nat.not_lt_zero _)⟩

/-- The result gathered from the first `k` devices. -/
def fiSt (c : Dev nD) (k : ℕ) : sProp 𝕄 := iprop(wSt m 3 rv 0 c k ∗ outSt m c k)

/-- Gathering from the next: its sum's landing awaited, the slot read, the rows put in the result. -/
theorem gather_step (c : Dev nD) (k : ℕ) (hk : k < 7) {off : Fin 2 → ℕ} (ho : off = ![128 * (peer c (rv ⟨k, hk⟩)).val, 0])
    {i : ∀ a, off a + S128x1024.size a ≤ S1024x1024.size a}
    {hsrc : gM.view.WordExact} {hdst : (slotM aM (rv ⟨k, hk⟩).succ).view.WordExact}
    {hls : aM.view.LoadsAt (slotR (rv ⟨k, hk⟩).succ).toLoadRect}
    {hl : oM.view.LoadsAt (Rect.unit (s := S1024x1024) off S128x1024.size i).toLoadRect}
    {hx : (oM.access (Rect.unit (s := S1024x1024) off S128x1024.size i)).Stores Finset.univ}
    {hm : Finset.univ = Finset.univ ∨ ∀ a, (Rect.unit (s := S1024x1024) off S128x1024.size i).stride a = 1}
    {kk : PUnit → Prog (TpuEff nD τ sig (Elt F) Λ₀ .tc) α} :
    iprop(records m K ∗ levAts L lv ∗ fiSt m c k)
      ⊢ iprop((fiSt m c (k + 1) -∗ WP c (kk ⟨⟩) Q)
          -∗ WP c (.op (.waitDma2 (semOf 3 (rv ⟨k, hk⟩).succ) gM (slotM aM (rv ⟨k, hk⟩).succ) hsrc hdst) fun _ =>
              .op (.load aM (slotR (rv ⟨k, hk⟩).succ).toLoadRect hls) fun (v : Vec F S1x128x1024 .bf16) =>
              .op (.load oM (Rect.unit (s := S1024x1024) off S128x1024.size i).toLoadRect hl) fun _ =>
              .op (.store oM (Rect.unit (s := S1024x1024) off S128x1024.size i) (extf .f32 (sq v) bitsLt_bf16_f32) Finset.univ hx hm) kk) Q) := by
  subst ho
  unfold fiSt wSt outSt
  rw [bigSep_todo k hk, bigSep_done k hk]
  iintro ⟨#HR, #Hlev, ⟨HO, ⟨Hw, Hrest⟩, Hd⟩, ⟨%f, %hf, Hf⟩⟩ Hk
  iapply (dma_wait m K c 3 (rv ⟨k, hk⟩) 0 (Above.zero _) (credit_a _)) $$ [HO Hw]
  · isplitr; · iexact HR
    isplitr; · iexact Hlev
    isplitl [HO] <;> iassumption
  iintro ⟨HO, Hw⟩
  unfold waitDone dmaPay
  icases Hw with ⟨Hs, Hat⟩
  iapply (slot_get c aM (rv ⟨k, hk⟩).succ (tot m (peer c (rv ⟨k, hk⟩)))) $$ [Hs]
  · iexact Hs
  iintro Hs
  rw [sq_unsq]
  iapply (load_rect c oM (oR (peer c (rv ⟨k, hk⟩))) f) $$ Hf
  iintro Hf
  iapply (wp_store 𝒱₀ (c : Thread nD τ) none Set.univ (m := oM) (r := oR (peer c (rv ⟨k, hk⟩))) (Mk := Finset.univ) (S := Finset.univ) (Finset.subset_univ _)) $$ Hf
  iintro Hf
  iapply Hk
  isplitr [Hf]
  · isplitl [HO]; · iexact HO
    isplitl [Hrest]; · iexact Hrest
    isplitr [Hd]; · isplitl [Hs] <;> iassumption
    iexact Hd
  iexists _
  isplitr; swap; · iexact Hf
  ipureintro
  refine ⟨(rd1_other _ _ (ne_peer c _) f _).trans hf.1, fun r hr => ?_⟩
  by_cases e : r = ⟨k, hk⟩
  · subst e; exact rd1_self _ f _
  · refine (rd1_other _ _ (fun h => e (peer_rv_inj h)) f _).trans (hf.2 r ?_)
    have : r.val ≠ k := fun h => e (Fin.ext h)
    omega

end Gather

end Cert.KernelIdealProof
-- ==== Proof.Walk.lean ====
/-
# 01_k: the body's run

The steps of the kernel's body one after the other, from the device's resources at its start to those at its end.
-/
module

public import proofs.«01_k».proof.Proof.Gather

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Walk
variable (K : Dev nD × Key → ℕ)

/-- A step's lemma with the records apart from what the step takes. -/
theorem curry {P S A B : sProp 𝕄} (h : iprop(P ∗ S) ⊢ iprop(A -∗ B)) : P ⊢ iprop(S -∗ A -∗ B) := by
  iintro HP HS HA
  iapply h $$ [HP HS]
  · isplitl [HP] <;> iassumption
  iexact HA

/-- A step's lemma with the records and the levels apart from what the step takes. -/
theorem curry2 {P P' S A B : sProp 𝕄} (h : iprop(P ∗ P' ∗ S) ⊢ iprop(A -∗ B)) : P ⊢ iprop(P' -∗ S -∗ A -∗ B) := by
  iintro HP HP' HS HA
  iapply h $$ [HP HP' HS]
  · isplitl [HP]; · iexact HP
    isplitl [HP'] <;> iassumption
  iexact HA

/-- A family entails a family member by member. -/
theorem fam_mono {I : Type} [Fintype I] [DecidableEq I] {Φ Ψ : I → sProp 𝕄} (h : ∀ i, Φ i ⊢ Ψ i) :
    (bigSep Finset.univ Φ : sProp 𝕄) ⊢ bigSep Finset.univ Ψ := bigSep_mono fun i _ => h i

/-- A whole buffer is owned as its whole block, at any share. -/
theorem owns_of_pts (c : Dev nD) (q : PosShare TreeShare) (X : cc0_scratch3.ty.Contents (Elt F)) :
    (((c : Thread nD τ).loc cc0_scratch3) ↦{q} X : sProp 𝕄) ⊢ owns (c : Thread nD τ) gM q X := by
  unfold owns; simp only [Memref.view_whole, View.read_whole, View.set_whole]
  iintro H; iexists _; isplitr; swap; · iexact H
  ipureintro; rfl

/-! ## From one phase to the next -/

/-- The signals all made. -/
theorem sig_end (c : Dev nD) (O : CellTallies nD τ sig Unit) : sigSt (F := F) c O 7 ⊢ ow (F := F) c O := by
  unfold sigSt
  rw [Obar_end, add_zero]
  iintro ⟨H, -⟩
  iexact H

/-- What a device brings to step `r` of the exchange. -/
def chTok (c : Dev nD) (r : Fin 7) : sProp 𝕄 :=
  iprop(free (F := F) pM r.succ c ∗ dutyTok ER (cell (key 0 r) c) 0 0 ∗ dutyTok ER (cell (key 1 (rv r)) (peer c r)) 0 0)

/-- What a device brings to step `r` of the gather, besides its share of the sum. -/
def gaTok (c : Dev nD) (r : Fin 7) : sProp 𝕄 :=
  iprop(dutyTok ER (cell (key 2 r) c) 0 0 ∗ dutyTok ER (cell (key 3 (rv r)) (peer c r)) 0 0)

/-- The exchange about to start: the peers' slots are there. -/
theorem ch_start (O : CellTallies nD τ sig Unit) (c : Dev nD) :
    iprop(ow (F := F) c (O + Odma 1 c 0) ∗ opnds m c ∗ (bigSep Finset.univ fun d => pay m none c d) ∗ bigSep Finset.univ (chTok (F := F) c))
      ⊢ iprop(chSt m O c 0 ∗ bigSep Finset.univ fun r => free (F := F) aM (rv r).succ (peer c r)) := by
  have h : iprop((bigSep Finset.univ fun d => pay m none c d) ∗ bigSep Finset.univ (chTok (F := F) c))
      ⊢ iprop(bigSep Finset.univ (chRes (F := F) c) ∗ bigSep Finset.univ fun r => free (F := F) aM (rv r).succ (peer c r)) := by
    rw [← bigSep_sep', ← bigSep_sep']
    refine fam_mono fun r => ?_
    rw [pay_bar]
    unfold chTok chRes
    iintro ⟨⟨Hr, Ha⟩, Hp, Ht, Ht'⟩
    isplitr [Ha]; swap; · iexact Ha
    isplitl [Hp]; · iexact Hp
    isplitl [Hr]; · iexact Hr
    isplitl [Ht] <;> iassumption
  unfold chSt
  rw [todo_zero, done_zero, bigSep_empty]
  iintro ⟨HO, Hop, Hp, Ht⟩
  ihave H := h $$ [Hp Ht]
  · isplitl [Hp] <;> iassumption
  icases H with ⟨H1, H2⟩
  isplitr [H2]; swap; · iexact H2
  isplitl [HO]; · iexact HO
  isplitl [Hop]; · iexact Hop
  isplitl [H1]; · iexact H1
  iempintro

/-- The exchange's sends all made. -/
theorem ch_end (O : CellTallies nD τ sig Unit) (c : Dev nD) :
    chSt m O c 7 ⊢ iprop(ow (F := F) c O ∗ opnds m c ∗ bigSep Finset.univ fun r => cred (tallyAt (cell (key 0 r) c) () N)) := by
  unfold chSt
  rw [Odma_end, add_zero, done_seven]
  iintro ⟨HO, Hop, -, Hc⟩
  isplitl [HO]; · iexact HO
  isplitl [Hop] <;> iassumption

/-- A run of waits about to start, in any order of the steps. -/
theorem w_start (a : Fin 4) (e : Fin 7 ≃ Fin 7) {σ : Fin 7 → Fin 7} (hσ : σ = e) (O : CellTallies nD τ sig Unit) (c : Dev nD) :
    iprop(ow (F := F) c O ∗ (bigSep Finset.univ (waitRes (F := F) a c))) ⊢ wSt m a σ O c 0 := by
  subst hσ
  unfold wSt
  rw [todo_zero, done_zero, bigSep_empty, ← bigSep_univ_equiv e (waitRes (F := F) a c)]
  iintro ⟨HO, H⟩
  isplitl [HO]; · iexact HO
  isplitl [H]; · iexact H
  iempintro

/-- A run of waits at its end. -/
theorem w_end (a : Fin 4) (e : Fin 7 ≃ Fin 7) {σ : Fin 7 → Fin 7} (hσ : σ = e) (O : CellTallies nD τ sig Unit) (c : Dev nD) :
    wSt m a σ O c 7 ⊢ iprop(ow (F := F) c O ∗ bigSep Finset.univ (waitDone m a c)) := by
  subst hσ
  unfold wSt
  rw [done_seven, ← bigSep_univ_equiv e (waitDone m a c)]
  iintro ⟨HO, -, H⟩
  isplitl [HO] <;> iassumption

/-- What a run of waits takes: the launch's or the sends' credit, and the positions. -/
theorem waits_of (a : Fin 4) (c : Dev nD) :
    iprop((bigSep Finset.univ fun r => cred (tallyAt (cell (key a r) c) () N)) ∗ bigSep Finset.univ fun r => atPos ER (cell (key a r) c) 0 ∅ 0)
      ⊢ bigSep Finset.univ (waitRes (F := F) a c) := by
  rw [← bigSep_sep']
  refine fam_mono fun r => ?_
  unfold waitRes
  iintro H
  iexact H

/-- The gather about to start: the sum lent in shares to the seven sends, one share kept. -/
theorem ga_start (c : Dev nD) :
    iprop(pts c cc0_scratch3 (tot m c) ∗ ow (F := F) c (Odma 3 c 0) ∗ (bigSep Finset.univ fun r => free (F := F) aM (rv r).succ (peer c r))
        ∗ bigSep Finset.univ (gaTok (F := F) c))
      ⊢ iprop(gaSt m c 0 ∗ owns (c : Thread nD τ) gM (Transfers.shareDrop fullShare 7) (tot m c)) := by
  have h : iprop((bigSep Finset.univ fun r => owns (c : Thread nD τ) gM (Transfers.shareTok fullShare 7 r) (tot m c))
        ∗ (bigSep Finset.univ fun r => free (F := F) aM (rv r).succ (peer c r)) ∗ bigSep Finset.univ (gaTok (F := F) c))
      ⊢ bigSep Finset.univ (gaRes m c) := by
    rw [← bigSep_sep', ← bigSep_sep']
    refine fam_mono fun r => ?_
    unfold gaTok gaRes
    iintro ⟨H, Ha, Ht, Ht'⟩
    isplitl [H]; · iexact H
    isplitl [Ha]; · iexact Ha
    isplitl [Ht] <;> iassumption
  have hs : pts (F := F) c cc0_scratch3 (tot m c) ⊢ iprop(owns (c : Thread nD τ) gM (Transfers.shareDrop fullShare 7) (tot m c)
      ∗ bigSep Finset.univ fun r => owns (c : Thread nD τ) gM (Transfers.shareTok fullShare 7 r) (tot m c)) := by
    iintro H
    ihave H := (Transfers.pointsTo_toks_split fullShare 7) $$ H
    icases H with ⟨H, Hs⟩
    isplitl [H]
    · iapply (owns_of_pts c _ (tot m c)); iexact H
    · iapply (fam_mono fun r => owns_of_pts c (Transfers.shareTok fullShare 7 r) (tot m c)); iexact Hs
  unfold gaSt
  rw [todo_zero, done_zero, bigSep_empty]
  iintro ⟨Hg, HO, Ha, Ht⟩
  ihave Hg := hs $$ Hg
  icases Hg with ⟨Hg, Hs⟩
  isplitr [Hg]; swap; · iexact Hg
  isplitl [HO]; · iexact HO
  isplitr []; swap; · iempintro
  iapply h
  isplitl [Hs]; · iexact Hs
  isplitl [Ha] <;> iassumption

/-- The gather's sends all made. -/
theorem ga_end (c : Dev nD) :
    gaSt m c 7 ⊢ iprop(ow (F := F) c 0 ∗ bigSep Finset.univ fun r => cred (tallyAt (cell (key 2 r) c) () N)) := by
  unfold gaSt
  rw [Odma_end, done_seven]
  iintro ⟨HO, -, Hc⟩
  isplitl [HO] <;> iassumption

/-- The gathering about to start; -/
theorem fi_start (c : Dev nD) : iprop(wSt m 3 rv 0 c 0 ∗ outSt m c 0) ⊢ fiSt m c 0 := by
  unfold fiSt
  iintro H
  iexact H

/-- and at its end. -/
theorem fi_end (c : Dev nD) : fiSt m c 7 ⊢ iprop(wSt m 3 rv 0 c 7 ∗ pts c cc0_stg3_0 (outV m)) := by
  unfold fiSt
  iintro ⟨H, Ho⟩
  isplitl [H]; · iexact H
  iapply (outSt_end m c); iexact Ho

/-- The device's own rows and its experts read. -/
theorem own_get (c : Dev nD) {off1 off2 : Fin 2 → ℕ} (h1 : off1 = ![128 * c.val, 0]) (h2 : off2 = ![128 * c.val, 0])
    {i1 : ∀ a, off1 a + S128x512.size a ≤ S1024x512.size a} {i2 : ∀ a, off2 a + S128x1.size a ≤ S1024x1.size a}
    {hlx : xM.view.LoadsAt (Rect.unit (s := S1024x512) off1 S128x512.size i1).toLoadRect}
    {hli : iM.view.LoadsAt (Rect.unit (s := S1024x1) off2 S128x1.size i2).toLoadRect}
    {hb0 : bM.view.LoadsAt (bR 0).toLoadRect} {hb1 : bM.view.LoadsAt (bR 1).toLoadRect}
    {hb2 : bM.view.LoadsAt (bR 2).toLoadRect} {hb3 : bM.view.LoadsAt (bR 3).toLoadRect}
    {α : Type} {Q : α → sProp (MT nD τ sig Unit (Elt F) ℕ UU ℕ)}
    {kk : Vec F S128x512 .bf16 → Vec F S128x1 .i32 → Vec F S1x512x1024 .bf16 → Vec F S1x512x1024 .bf16 → Vec F S1x512x1024 .bf16
      → Vec F S1x512x1024 .bf16 → Prog (TpuEff nD τ sig (Elt F) Λ₀ .tc) α} :
    opnds m c ⊢ iprop((opnds m c -∗ WP c (kk (xM.view.readAt (Elt F) (xR c).toLoadRect (xs m c)) (iM.view.readAt (Elt F) (iR c).toLoadRect (ids m c))
            (bM.view.readAt (Elt F) (bR 0).toLoadRect (ws m c)) (bM.view.readAt (Elt F) (bR 1).toLoadRect (ws m c))
            (bM.view.readAt (Elt F) (bR 2).toLoadRect (ws m c)) (bM.view.readAt (Elt F) (bR 3).toLoadRect (ws m c))) Q)
          -∗ WP c (.op (.load xM (Rect.unit (s := S1024x512) off1 S128x512.size i1).toLoadRect hlx) fun x =>
              .op (.load iM (Rect.unit (s := S1024x1) off2 S128x1.size i2).toLoadRect hli) fun i =>
              .op (.load bM (bR 0).toLoadRect hb0) fun w0 => .op (.load bM (bR 1).toLoadRect hb1) fun w1 =>
              .op (.load bM (bR 2).toLoadRect hb2) fun w2 => .op (.load bM (bR 3).toLoadRect hb3) fun w3 => kk x i w0 w1 w2 w3) Q) := by
  subst h1 h2
  unfold opnds
  iintro ⟨Hx, Hi, Hb⟩ Hk
  iapply (load_rect c xM (xR c) (xs m c)) $$ Hx
  iintro Hx
  iapply (load_rect c iM (iR c) (ids m c)) $$ Hi
  iintro Hi
  iapply (load_rect c bM (bR 0) (ws m c)) $$ Hb
  iintro Hb
  iapply (load_rect c bM (bR 1) (ws m c)) $$ Hb
  iintro Hb
  iapply (load_rect c bM (bR 2) (ws m c)) $$ Hb
  iintro Hb
  iapply (load_rect c bM (bR 3) (ws m c)) $$ Hb
  iintro Hb
  iapply Hk
  isplitl [Hx]; · iexact Hx
  isplitl [Hi] <;> iassumption

/-- What a device brings to the body's run, its operands staged, its result's buffer and its experts' buffer at any contents. -/
def walkPre (c : Dev nD) : sProp 𝕄 :=
  iprop(sigSt (F := F) c (Odma 3 c 0 + Odma 1 c 0) 0
    ∗ cred (tallyAt (cell none c) () 7) ∗ atPos ER (cell none c) 0 ∅ 0
    ∗ pts c cc0_stg0_0 (xs m c) ∗ pts c cc0_stg1_0 (ids m c) ∗ pts c cc0_stg2_0 (ws m c) ∗ (∃ g, pts (F := F) c cc0_stg3_0 g)
    ∗ (∃ g, pts (F := F) c cc0_scratch0 g) ∗ (∃ g, pts (F := F) c cc0_scratch3 g)
    ∗ bigSep Finset.univ (chTok (F := F) c) ∗ bigSep Finset.univ (gaTok (F := F) c)
    ∗ (bigSep Finset.univ fun r => atPos ER (cell (key 0 r) c) 0 ∅ 0) ∗ bigSep Finset.univ (waitRes (F := F) 1 c)
    ∗ (bigSep Finset.univ fun r => atPos ER (cell (key 2 r) c) 0 ∅ 0) ∗ bigSep Finset.univ (waitRes (F := F) 3 c))

/-- What it has at the end: the result put together. -/
def walkPost (c : Dev nD) : sProp 𝕄 :=
  iprop(ow (F := F) c 0 ∗ atPos ER (cell none c) 1 ∅ 0
    ∗ opnds m c ∗ pts c cc0_stg2_0 (ws m c) ∗ pts c cc0_stg3_0 (outV m)
    ∗ owns (c : Thread nD τ) gM (Transfers.shareDrop fullShare 7) (tot m c)
    ∗ bigSep Finset.univ (waitDone m 0 c) ∗ bigSep Finset.univ (waitDone m 1 c) ∗ bigSep Finset.univ (waitDone m 2 c)
    ∗ bigSep Finset.univ (waitDone m 3 c))

set_option maxHeartbeats 40000000 in
/-- The body's run on device `c`. -/
theorem walk (c : Dev nD) (Q : Unit → sProp 𝕄) :
    iprop(records m K ∗ levAts L lv ∗ walkPre m c ∗ (walkPost m c -∗ |={Set.univ}=> Q ⟨⟩)) ⊢ WP c (cc0_body (F := F) xM (Memref.isWhole_whole _) iM (Memref.isWhole_whole _) wM (Memref.isWhole_whole _) oM (Memref.isWhole_whole _)
     bM (Memref.isWhole_whole _) pM (Memref.isWhole_whole _) rM (Memref.isWhole_whole _) gM (Memref.isWhole_whole _) aM (Memref.isWhole_whole _) cc0_scratch5 cc0_scratch6 cc0_scratch7 cc0_scratch8) Q := by
  simp only [cc0_body_eq_skeleton]; unfold cc0_body_skel
  simp only [k0_part30_eq_skeleton]; unfold k0_part30_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel
  simp only [semSignalWord, semWaitWord, Prog.lift, Prog.bind_op, Prog.bind_ret, Prog.pure_eq_ret, wp_deviceId]
  unfold walkPre
  iintro ⟨#HR, #Hlev, ⟨HO, Hcb, Hab, Hx, Hi, Hw, ⟨%go, Ho⟩, ⟨%gb, Hb⟩, ⟨%gg, Hg⟩, Hch, Hga, Ha0, H1, Ha2, H3⟩, HQ⟩
  iapply (curry (sig_step m K c 0 (by decide) _ _ (dev_eq c 0 (k0_dev1_lt c) (k0_dev1_eq c)))) $$ HR HO; iintro HO
  iapply (curry (sig_step m K c 1 (by decide) _ _ (dev_eq c 1 (k0_dev2_lt c) (k0_dev2_eq c)))) $$ HR HO; iintro HO
  iapply (curry (sig_step m K c 2 (by decide) _ _ (dev_eq c 2 (k0_dev3_lt c) (k0_dev3_eq c)))) $$ HR HO; iintro HO
  iapply (curry (sig_step m K c 3 (by decide) _ _ (dev_eq c 3 (k0_dev4_lt c) (k0_dev4_eq c)))) $$ HR HO; iintro HO
  iapply (curry (sig_step m K c 4 (by decide) _ _ (dev_eq c 4 (k0_dev5_lt c) (k0_dev5_eq c)))) $$ HR HO; iintro HO
  iapply (curry (sig_step m K c 5 (by decide) _ _ (dev_eq c 5 (k0_dev6_lt c) (k0_dev6_eq c)))) $$ HR HO; iintro HO
  iapply (curry (sig_step m K c 6 (by decide) _ _ (dev_eq c 6 (k0_dev7_lt c) (k0_dev7_eq c)))) $$ HR HO; iintro HO
  ihave HO := (sig_end c _) $$ HO
  iapply (bar_wait m K c _ ((above_dma 3 c 0 1 (by decide)).add (above_dma 1 c 0 1 (by decide)))) $$ [HO Hcb Hab]
  · isplitr; · iexact HR
    isplitr; · iexact Hlev
    isplitl [HO]; · iexact HO
    isplitl [Hcb] <;> iassumption
  iintro ⟨HO, Hab, Hpay⟩
  iapply (experts_put c (ws m c) gb) $$ [Hw Hb]
  · isplitl [Hw] <;> iassumption
  iintro ⟨Hw, Hb⟩
  ihave HO := (ch_start m (Odma 3 c 0) c) $$ [HO Hx Hi Hb Hpay Hch]
  · isplitl [HO]; · iexact HO
    isplitl [Hx Hi Hb]
    · unfold opnds; isplitl [Hx]; · iexact Hx
      isplitl [Hi] <;> iassumption
    isplitl [Hpay] <;> iassumption
  icases HO with ⟨HO, Hfa⟩
  iapply (curry (chunk_step m K (Odma 3 c 0) c 0 (by decide) _ (dev_eq c 0 (k0_dev8_lt c) (k0_dev8_eq c)) (k0_off1_eq c 0) (k0_off2_eq c 0))) $$ HR HO; iintro %_ %_ HO
  iapply (curry (chunk_step m K (Odma 3 c 0) c 1 (by decide) _ (dev_eq c 1 (k0_dev9_lt c) (k0_dev9_eq c)) (k0_off1_eq c 1) (k0_off2_eq c 1))) $$ HR HO; iintro %_ %_ HO
  iapply (curry (chunk_step m K (Odma 3 c 0) c 2 (by decide) _ (dev_eq c 2 (k0_dev10_lt c) (k0_dev10_eq c)) (k0_off1_eq c 2) (k0_off2_eq c 2))) $$ HR HO; iintro %_ %_ HO
  iapply (curry (chunk_step m K (Odma 3 c 0) c 3 (by decide) _ (dev_eq c 3 (k0_dev11_lt c) (k0_dev11_eq c)) (k0_off1_eq c 3) (k0_off2_eq c 3))) $$ HR HO; iintro %_ %_ HO
  iapply (curry (chunk_step m K (Odma 3 c 0) c 4 (by decide) _ (dev_eq c 4 (k0_dev12_lt c) (k0_dev12_eq c)) (k0_off1_eq c 4) (k0_off2_eq c 4))) $$ HR HO; iintro %_ %_ HO
  iapply (curry (chunk_step m K (Odma 3 c 0) c 5 (by decide) _ (dev_eq c 5 (k0_dev13_lt c) (k0_dev13_eq c)) (k0_off1_eq c 5) (k0_off2_eq c 5))) $$ HR HO; iintro %_ %_ HO
  iapply (curry (chunk_step m K (Odma 3 c 0) c 6 (by decide) _ (dev_eq c 6 (k0_dev14_lt c) (k0_dev14_eq c)) (k0_off1_eq c 6) (k0_off2_eq c 6))) $$ HR HO; iintro %_ %_ HO
  ihave HO := (ch_end m (Odma 3 c 0) c) $$ HO
  icases HO with ⟨HO, Hop, Hc0⟩
  iapply (own_get m c (k0_off3_eq c) (k0_off4_eq c)) $$ Hop
  iintro Hop
  ihave HO := (w_start m 1 rvEquiv (σ := rv) rfl (Odma 3 c 0) c) $$ [HO H1]
  · isplitl [HO] <;> iassumption
  iapply (curry2 (wait_step m K 1 rv (Odma 3 c 0) c 0 (by decide) (above_dma 3 c 0 _ (by decide)) (credit_r 7))) $$ HR Hlev HO; iintro HO
  iapply (curry2 (wait_step m K 1 rv (Odma 3 c 0) c 1 (by decide) (above_dma 3 c 0 _ (by decide)) (credit_r 6))) $$ HR Hlev HO; iintro HO
  iapply (curry2 (wait_step m K 1 rv (Odma 3 c 0) c 2 (by decide) (above_dma 3 c 0 _ (by decide)) (credit_r 5))) $$ HR Hlev HO; iintro HO
  iapply (curry2 (wait_step m K 1 rv (Odma 3 c 0) c 3 (by decide) (above_dma 3 c 0 _ (by decide)) (credit_r 4))) $$ HR Hlev HO; iintro HO
  iapply (curry2 (wait_step m K 1 rv (Odma 3 c 0) c 4 (by decide) (above_dma 3 c 0 _ (by decide)) (credit_r 3))) $$ HR Hlev HO; iintro HO
  iapply (curry2 (wait_step m K 1 rv (Odma 3 c 0) c 5 (by decide) (above_dma 3 c 0 _ (by decide)) (credit_r 2))) $$ HR Hlev HO; iintro HO
  iapply (curry2 (wait_step m K 1 rv (Odma 3 c 0) c 6 (by decide) (above_dma 3 c 0 _ (by decide)) (credit_r 1))) $$ HR Hlev HO; iintro HO
  ihave HO := (w_end m 1 rvEquiv (σ := rv) rfl (Odma 3 c 0) c) $$ HO
  icases HO with ⟨HO, H1⟩
  iapply (landed_get m c 0) $$ H1; iintro H1
  iapply (landed_get m c 1) $$ H1; iintro H1
  iapply (landed_get m c 2) $$ H1; iintro H1
  iapply (landed_get m c 3) $$ H1; iintro H1
  iapply (landed_get m c 4) $$ H1; iintro H1
  iapply (landed_get m c 5) $$ H1; iintro H1
  iapply (landed_get m c 6) $$ H1; iintro H1
  iapply (sum_put c gg (tot m c) (shapeCast_self _ _)) $$ Hg; iintro Hg
  ihave HO := (ga_start m c) $$ [Hg HO Hfa Hga]
  · isplitl [Hg]; · iexact Hg
    isplitl [HO]; · iexact HO
    isplitl [Hfa] <;> iassumption
  icases HO with ⟨HO, Hg⟩
  iapply (own_put m c go (k0_off5_eq c)) $$ Ho; iintro Ho
  iapply (curry (sum_step m K c 0 (by decide) _ (dev_eq c 0 (k0_dev15_lt c) (k0_dev15_eq c)))) $$ HR HO; iintro HO
  iapply (curry (sum_step m K c 1 (by decide) _ (dev_eq c 1 (k0_dev16_lt c) (k0_dev16_eq c)))) $$ HR HO; iintro HO
  iapply (curry (sum_step m K c 2 (by decide) _ (dev_eq c 2 (k0_dev17_lt c) (k0_dev17_eq c)))) $$ HR HO; iintro HO
  iapply (curry (sum_step m K c 3 (by decide) _ (dev_eq c 3 (k0_dev18_lt c) (k0_dev18_eq c)))) $$ HR HO; iintro HO
  iapply (curry (sum_step m K c 4 (by decide) _ (dev_eq c 4 (k0_dev19_lt c) (k0_dev19_eq c)))) $$ HR HO; iintro HO
  iapply (curry (sum_step m K c 5 (by decide) _ (dev_eq c 5 (k0_dev20_lt c) (k0_dev20_eq c)))) $$ HR HO; iintro HO
  iapply (curry (sum_step m K c 6 (by decide) _ (dev_eq c 6 (k0_dev21_lt c) (k0_dev21_eq c)))) $$ HR HO; iintro HO
  ihave HO := (ga_end m c) $$ HO
  icases HO with ⟨HO, Hc2⟩
  ihave HO := (w_start m 3 rvEquiv (σ := rv) rfl 0 c) $$ [HO H3]
  · isplitl [HO] <;> iassumption
  ihave HO := (fi_start m c) $$ [HO Ho]
  · isplitl [HO] <;> iassumption
  iapply (curry2 (gather_step m K c 0 (by decide) (k0_off6_eq c 6))) $$ HR Hlev HO; iintro HO
  iapply (curry2 (gather_step m K c 1 (by decide) (k0_off6_eq c 5))) $$ HR Hlev HO; iintro HO
  iapply (curry2 (gather_step m K c 2 (by decide) (k0_off6_eq c 4))) $$ HR Hlev HO; iintro HO
  iapply (curry2 (gather_step m K c 3 (by decide) (k0_off6_eq c 3))) $$ HR Hlev HO; iintro HO
  iapply (curry2 (gather_step m K c 4 (by decide) (k0_off6_eq c 2))) $$ HR Hlev HO; iintro HO
  iapply (curry2 (gather_step m K c 5 (by decide) (k0_off6_eq c 1))) $$ HR Hlev HO; iintro HO
  iapply (curry2 (gather_step m K c 6 (by decide) (k0_off6_eq c 0))) $$ HR Hlev HO; iintro HO
  ihave HO := (fi_end m c) $$ HO
  icases HO with ⟨HO, Ho⟩
  ihave HO := (w_end m 3 rvEquiv (σ := rv) rfl 0 c) $$ HO
  icases HO with ⟨HO, H3⟩
  ihave H0 := (waits_of 0 c) $$ [Hc0 Ha0]
  · isplitl [Hc0] <;> iassumption
  ihave HO := (w_start m 0 (Equiv.refl _) (σ := id) rfl 0 c) $$ [HO H0]
  · isplitl [HO] <;> iassumption
  iapply (curry2 (wait_step m K 0 id 0 c 0 (by decide) (Above.zero _) (credit_p 1))) $$ HR Hlev HO; iintro HO
  iapply (curry2 (wait_step m K 0 id 0 c 1 (by decide) (Above.zero _) (credit_p 2))) $$ HR Hlev HO; iintro HO
  iapply (curry2 (wait_step m K 0 id 0 c 2 (by decide) (Above.zero _) (credit_p 3))) $$ HR Hlev HO; iintro HO
  iapply (curry2 (wait_step m K 0 id 0 c 3 (by decide) (Above.zero _) (credit_p 4))) $$ HR Hlev HO; iintro HO
  iapply (curry2 (wait_step m K 0 id 0 c 4 (by decide) (Above.zero _) (credit_p 5))) $$ HR Hlev HO; iintro HO
  iapply (curry2 (wait_step m K 0 id 0 c 5 (by decide) (Above.zero _) (credit_p 6))) $$ HR Hlev HO; iintro HO
  iapply (curry2 (wait_step m K 0 id 0 c 6 (by decide) (Above.zero _) (credit_p 7))) $$ HR Hlev HO; iintro HO
  ihave HO := (w_end m 0 (Equiv.refl _) (σ := id) rfl 0 c) $$ HO
  icases HO with ⟨HO, H0⟩
  ihave H2 := (waits_of 2 c) $$ [Hc2 Ha2]
  · isplitl [Hc2] <;> iassumption
  ihave HO := (w_start m 2 (Equiv.refl _) (σ := id) rfl 0 c) $$ [HO H2]
  · isplitl [HO] <;> iassumption
  iapply (curry2 (wait_step m K 2 id 0 c 0 (by decide) (Above.zero _) (dst := gM) rfl)) $$ HR Hlev HO; iintro HO
  iapply (curry2 (wait_step m K 2 id 0 c 1 (by decide) (Above.zero _) (dst := gM) rfl)) $$ HR Hlev HO; iintro HO
  iapply (curry2 (wait_step m K 2 id 0 c 2 (by decide) (Above.zero _) (dst := gM) rfl)) $$ HR Hlev HO; iintro HO
  iapply (curry2 (wait_step m K 2 id 0 c 3 (by decide) (Above.zero _) (dst := gM) rfl)) $$ HR Hlev HO; iintro HO
  iapply (curry2 (wait_step m K 2 id 0 c 4 (by decide) (Above.zero _) (dst := gM) rfl)) $$ HR Hlev HO; iintro HO
  iapply (curry2 (wait_step m K 2 id 0 c 5 (by decide) (Above.zero _) (dst := gM) rfl)) $$ HR Hlev HO; iintro HO
  iapply (curry2 (wait_step m K 2 id 0 c 6 (by decide) (Above.zero _) (dst := gM) rfl)) $$ HR Hlev HO; iintro HO
  ihave HO := (w_end m 2 (Equiv.refl _) (σ := id) rfl 0 c) $$ HO
  icases HO with ⟨HO, H2⟩
  unfold WP; rw [wp_ret]
  iapply HQ
  unfold walkPost
  isplitl [HO]; · iexact HO
  isplitl [Hab]; · iexact Hab
  isplitl [Hop]; · iexact Hop
  isplitl [Hw]; · iexact Hw
  isplitl [Ho]; · iexact Ho
  isplitl [Hg]; · iexact Hg
  isplitl [H0]; · iexact H0
  isplitl [H1]; · iexact H1
  isplitl [H2]; · iexact H2
  iexact H3

end Walk
end Cert.KernelIdealProof
-- ==== Proof.Held.lean ====
/-
# 01_k: what a device holds

The slots of a buffer taken apart and put together, and the cells of a device: their families, and how they close.
-/
module

public import proofs.«01_k».proof.Proof.Walk

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Held

/-! ## Slots of a buffer -/

theorem mem_slotR (s : Fin 8) (y : S8x128x1024.Idx) : y ∈ (slotR s).set ↔ (y 0).val = s.val := by
  rw [Rect.mem_set_unit]
  have h1 : (y 1).val < 128 := (y 1).isLt
  have h2 : (y 2).val < 1024 := (y 2).isLt
  constructor
  · intro H
    have a0 : s.val ≤ (y 0).val ∧ (y 0).val < s.val + 1 := H 0
    omega
  · intro H i
    fin_cases i
    · show s.val ≤ (y 0).val ∧ (y 0).val < s.val + 1; omega
    · show 0 ≤ (y 1).val ∧ (y 1).val < 0 + 128; omega
    · show 0 ≤ (y 2).val ∧ (y 2).val < 0 + 1024; omega

theorem slotM_set (M : Memref sig .tc .vmem S8x128x1024 .bf16) (s : Fin 8) : (slotM M s).view.set = (slotR s).set.map M.view.emb :=
  (View.set_reshape _ _).trans (View.set_slice _ _)

/-- The elements of a slot. -/
abbrev slotSet (M : Memref sig .tc .vmem S8x128x1024 .bf16) (s : Fin 8) : Finset M.view.ty.Idx := (slotM M s).view.set

theorem slots_disj (M : Memref sig .tc .vmem S8x128x1024 .bf16) (s s' : Fin 8) (h : s ≠ s') :
    Disjoint (slotSet M s) (slotSet M s') := by
  unfold slotSet
  rw [slotM_set, slotM_set, Finset.disjoint_map, Finset.disjoint_left]
  intro y hy hy'
  rw [mem_slotR] at hy hy'
  exact h (Fin.ext (hy.symm.trans hy'))

theorem slots_cover (M : Memref sig .tc .vmem S8x128x1024 .bf16) (hM : M.view.set = Finset.univ) :
    (Finset.univ : Finset (Fin 8)).biUnion (slotSet M) = Finset.univ := by
  refine Finset.eq_univ_iff_forall.mpr fun x => ?_
  have hx : x ∈ M.view.set := by rw [hM]; exact Finset.mem_univ x
  obtain ⟨y, -, hy⟩ := Finset.mem_map.mp hx
  refine Finset.mem_biUnion.mpr ⟨⟨(y 0).val, (y 0).isLt⟩, Finset.mem_univ _, ?_⟩
  rw [slotSet, slotM_set, ← hy]
  exact Finset.mem_map_of_mem _ ((mem_slotR _ y).mpr rfl)

/-- A family over the eight slots: slot zero, and one slot for every step. -/
theorem bigSep_slots {M : Type} [URA M] (Φ : Fin 8 → sProp M) :
    bigSep Finset.univ Φ = iprop(Φ 0 ∗ bigSep Finset.univ fun d : Fin 7 => Φ d.succ) := by
  rw [Fin.univ_succ, Finset.cons_eq_insert, bigSep_insert (by simp), bigSep_map]; rfl

/-- A buffer held at any contents is slot zero and a slot for every step. -/
theorem slots_split (M : Memref sig .tc .vmem S8x128x1024 .bf16) (hM : M.view.set = Finset.univ) (c : Dev nD) :
    iprop(∃ f : Buf (Elt F) (M.view.loc (c : Thread nD τ)), M.view.loc (c : Thread nD τ) ↦{fullShare} f)
      ⊢ iprop(free (F := F) M 0 c ∗ bigSep Finset.univ fun d : Fin 7 => free (F := F) M d.succ c) := by
  rw [← bigSep_slots fun s => free (F := F) M s c]
  iintro ⟨%f, H⟩
  ihave H := (Entails.of_eq (Ring.pointsTo_blocks (ℓ := M.view.loc (c : Thread nD τ)) (slotSet M) (slots_disj M) (slots_cover M hM) f)) $$ H
  iapply (fam_mono (F := F) (Φ := fun s : Fin 8 => (M.view.loc (c : Thread nD τ) ↦[slotSet M s]{fullShare} f)) fun s => by
    unfold free; iintro H; iexists f; iexact H)
  iexact H

/-- The slots put together. -/
theorem slots_join (M : Memref sig .tc .vmem S8x128x1024 .bf16) (hM : M.view.set = Finset.univ) (c : Dev nD) (f₀ : Buf (Elt F) (M.view.loc (c : Thread nD τ))) :
    iprop(free (F := F) M 0 c ∗ bigSep Finset.univ fun d : Fin 7 => free (F := F) M d.succ c)
      ⊢ iprop(∃ f : Buf (Elt F) (M.view.loc (c : Thread nD τ)), M.view.loc (c : Thread nD τ) ↦{fullShare} f) := by
  rw [← bigSep_slots fun s => free (F := F) M s c]
  unfold free
  exact Ring.pointsTo_blocks_join_exists (ℓ := M.view.loc (c : Thread nD τ)) (slotSet M) (slots_disj M) (slots_cover M hM) f₀

/-- A slot holding something is a slot held at some contents. -/
theorem free_of_owns (M : Memref sig .tc .vmem S8x128x1024 .bf16) (s : Fin 8) (c : Dev nD) (X : FVec F S128x1024 .bf16) :
    owns (c : Thread nD τ) (slotM M s) fullShare X ⊢ free (F := F) M s c := by
  unfold owns free
  iintro ⟨%f, -, H⟩
  iexists f; iexact H

/-! ## The cells of a device -/

/-- A family over a device's cells: the barrier's, and for each array slot zero's and one for every step. -/
theorem bigSep_keys {M : Type} [URA M] (Φ : Key → sProp M) :
    bigSep Finset.univ Φ = iprop(Φ none ∗ bigSep Finset.univ fun a : Fin 4 => iprop(Φ (some (a, 0)) ∗ bigSep Finset.univ fun d : Fin 7 => Φ (key a d))) := by
  have h : (Finset.univ : Finset Key) = insert none ((Finset.univ : Finset (Fin 4 × Fin 8)).map Function.Embedding.some) := by
    ext k; rcases k with _ | p <;> simp
  rw [h, bigSep_insert (by simp), bigSep_map, bigSep_univ_prod]
  exact congrArg (fun X => iprop(Φ none ∗ X)) (bigSep_congr fun a _ => bigSep_slots fun s => Φ (some (a, s)))

theorem bigSep_arrays {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- How many rounds of a cell the body runs: one, and none at the slots never used. -/
def endRound : Key → ℕ
  | none => 1
  | some (_, s) => if s = 0 then 0 else 1

theorem duties_end (k : Key) (c : Dev nD) : ∀ r, endRound k ≤ r → (rd (F := F) m).duties (cell k c) r = ∅ := by
  rcases k with _ | ⟨a, s⟩
  · exact duties_later m _
  · by_cases h : s = 0
    · subst h; exact duties_zero_slot m a c
    · intro r hr
      exact duties_later m _ r (by rwa [show endRound (some (a, s)) = 1 from if_neg h] at hr)

/-- A persistent fact beside a family goes to each member. -/
theorem fam_with {I : Type} [Fintype I] [DecidableEq I] {R : sProp 𝕄} [BI.Persistent R] {Φ Ψ : I → sProp 𝕄}
    (h : ∀ i, iprop(R ∗ Φ i) ⊢ Ψ i) : iprop(R ∗ bigSep Finset.univ Φ) ⊢ bigSep Finset.univ Ψ := by
  iintro ⟨HR, H⟩
  ihave HR := (BI.bigSep_of_persistent (Finset.univ : Finset I) R) $$ HR
  iapply (fam_mono h)
  rw [bigSep_sep']
  isplitl [HR] <;> iassumption

/-- All the cells of a device close, their counters back at zero. -/
theorem close_all (K : Dev nD × Key → ℕ) (c : Dev nD) :
    iprop(records m K ∗ bigSep Finset.univ fun k : Key => atPos ER (cell k c) (endRound k) ∅ 0)
      ⊢ |={Set.univ}=> bigSep Finset.univ fun k : Key => semVal (cell k c) 0 := by
  have h : ∀ k : Key, iprop(records m K ∗ atPos ER (cell k c) (endRound k) ∅ 0) ⊢ (|={Set.univ}=> semVal (cell k c) 0 : sProp 𝕄) := fun k => by
    iintro ⟨#HR, Hat⟩
    iapply (Rounds.cell_close ER (rd m) (Set.mem_univ (K (c, k))) (fun h => h) (R := endRound k) (duties_end m k c))
    isplitr; · iapply (records_inv m K k c); iexact HR
    iexact Hat
  exact (fam_with h).trans (bigSep_fupd _ _)

theorem sep_swap (P Q : sProp 𝕄) : (iprop(P ∗ Q) : sProp 𝕄) = iprop(Q ∗ P) :=
  Entails.antisymm (show iprop(P ∗ Q) ⊢ iprop(Q ∗ P) from by iintro ⟨H, H'⟩; isplitl [H'] <;> iassumption)
    (show iprop(Q ∗ P) ⊢ iprop(P ∗ Q) from by iintro ⟨H, H'⟩; isplitl [H'] <;> iassumption)

/-- The kernel's own semaphores. -/
def osem (p : Fin 4 × Fin 8) : SemLoc sig := csem (some p)

/-- A device's counters at zero: its own semaphores', and the barrier's. -/
theorem sems_zero (c : Dev nD) :
    iprop(Pipeline.ownSems0 (Ix := Unit) (Name := ℕ) (U := UU) (Lvl := ℕ) (Val := Elt F) (τ := τ) osem c ∗ unscopedSems0 c)
      = (bigSep Finset.univ fun k : Key => semVal (cell k c) 0 : sProp 𝕄) := by
  have h : (Finset.univ : Finset Key) = insert none ((Finset.univ : Finset (Fin 4 × Fin 8)).map Function.Embedding.some) := by
    ext k; rcases k with _ | p <;> simp
  have hu : (unscopedSems0 c : sProp 𝕄) = semVal (cell none c) 0 := by
    unfold unscopedSems0; rw [bigSep_eq_bigSepL_of_eq [SemLoc.reg barS] (by decide) (by decide)]; rfl
  rw [hu, h, bigSep_insert (by simp), bigSep_map]
  unfold Pipeline.ownSems0
  exact sep_swap _ _

end Held
end Cert.KernelIdealProof
-- ==== Proof.Body.lean ====
/-
# 01_k: the body of the kernel

What the launch gives a device, what the body's run makes of it, and the pipeline's obligation for the body.
-/
module

public import proofs.«01_k».proof.Proof.Held

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## What a device starts from and ends with -/

/-- The duties a device pays: a signal and two transfers' ends at each peer. -/
def payToks (c : Dev nD) : sProp 𝕄 :=
  iprop((bigSep Finset.univ fun r : Fin 7 => dutyTok ER (cell none (peer c r)) 0 (rv r))
    ∗ (bigSep Finset.univ fun r : Fin 7 => dutyTok ER (cell (key 0 r) c) 0 0)
    ∗ (bigSep Finset.univ fun r : Fin 7 => dutyTok ER (cell (key 1 (rv r)) (peer c r)) 0 0)
    ∗ (bigSep Finset.univ fun r : Fin 7 => dutyTok ER (cell (key 2 r) c) 0 0)
    ∗ bigSep Finset.univ fun r : Fin 7 => dutyTok ER (cell (key 3 (rv r)) (peer c r)) 0 0)

/-- Its positions at its cells, and the duties it pays. -/
def linear (c : Dev nD) : sProp 𝕄 :=
  iprop((bigSep Finset.univ fun k : Key => atPos ER (cell k c) 0 ∅ 0) ∗ payToks (F := F) c)

/-- The credit others owe it: seven signals, and a landing for each step of the exchange and of the gather. -/
def creds (c : Dev nD) : sProp 𝕄 :=
  iprop(cred (tallyAt (cell none c) () 7) ∗ (bigSep Finset.univ fun d : Fin 7 => cred (tallyAt (cell (key 1 d) c) () N))
    ∗ bigSep Finset.univ fun d : Fin 7 => cred (tallyAt (cell (key 3 d) c) () N))

/-- What the launch gives a device. -/
def start (c : Dev nD) : sProp 𝕄 := iprop((∃ K, records m K ∗ linear (F := F) c) ∗ creds (F := F) c ∗ levAts L lv)

/-- Its scratch buffers at any contents. -/
abbrev scratch (c : Dev nD) : sProp 𝕄 :=
  Pipeline.scopedRest (Ix := Unit) (Name := ℕ) (U := UU) (Lvl := ℕ) (Val := Elt F) cfg0.spec c

/-- Before the body; -/
def Φ₀ (c : Dev nD) : sProp 𝕄 := iprop(start m c ∗ scratch (F := F) c)

/-- and after: every counter at zero. -/
def Φ₁ (c : Dev nD) : sProp 𝕄 :=
  iprop((Pipeline.ownSems0 (Ix := Unit) (Name := ℕ) (U := UU) (Lvl := ℕ) (Val := Elt F) (τ := τ) osem c ∗ unscopedSems0 c) ∗ scratch (F := F) c)

/-- What the body does not touch: the slots and the cells of slot zero. -/
def aside (c : Dev nD) : sProp 𝕄 :=
  iprop(free (F := F) pM 0 c ∗ free (F := F) rM 0 c ∗ free (F := F) aM 0 c
    ∗ bigSep Finset.univ fun a : Fin 4 => atPos ER (cell (some (a, 0)) c) 0 ∅ 0)

/-- The staged operands and the result's buffer, before the body. -/
def staged (c : Dev nD) : sProp 𝕄 :=
  iprop(pts c cc0_stg0_0 (xs m c) ∗ pts c cc0_stg1_0 (ids m c) ∗ pts c cc0_stg2_0 (ws m c) ∗ ∃ g, pts (F := F) c cc0_stg3_0 g)

/-- What a device holds when its body starts, as the body's run takes it. -/
theorem walk_enter (c : Dev nD) :
    iprop(linear (F := F) c ∗ creds (F := F) c ∗ scratch (F := F) c ∗ ow (F := F) c (O₀ c) ∗ staged m c) ⊢ iprop(walkPre m c ∗ aside (F := F) c) := by
  unfold linear payToks creds scratch staged
  rw [scopedRest0_eq, bigSep_keys, bigSep_sep', bigSep_arrays fun a => bigSep Finset.univ fun d : Fin 7 => atPos ER (cell (key a d) c) 0 ∅ 0]
  iintro ⟨⟨⟨Hab, Haz, Ha0, Ha1, Ha2, Ha3⟩, Htb, Ht0, Ht1, Ht2, Ht3⟩, ⟨Hcb, Hc1, Hc3⟩, ⟨Hs0, Hs1, Hs2, Hs3, Hs4⟩, HO, Hx, Hi, Hw, Ho⟩
  ihave Hs1 := (slots_split pM (View.set_whole _) c) $$ [Hs1]
  · iexact Hs1
  ihave Hs2 := (slots_split rM (View.set_whole _) c) $$ [Hs2]
  · iexact Hs2
  ihave Hs4 := (slots_split aM (View.set_whole _) c) $$ [Hs4]
  · iexact Hs4
  icases Hs1 with ⟨Hp0, Hp⟩
  icases Hs2 with ⟨Hr0, Hr⟩
  icases Hs4 with ⟨Hg0, Hg⟩
  unfold aside walkPre sigSt
  isplitr [Hp0 Hr0 Hg0 Haz]; swap
  · isplitl [Hp0]; · iexact Hp0
    isplitl [Hr0]; · iexact Hr0
    isplitl [Hg0] <;> iassumption
  isplitl [HO Htb Hr Hg]
  · isplitl [HO]; · iexact HO
    rw [todo_zero]
    unfold sigRes
    rw [bigSep_sep', bigSep_sep']
    isplitl [Htb]; · iexact Htb
    isplitl [Hr] <;> iassumption
  isplitl [Hcb]; · iexact Hcb
  isplitl [Hab]; · iexact Hab
  isplitl [Hx]; · iexact Hx
  isplitl [Hi]; · iexact Hi
  isplitl [Hw]; · iexact Hw
  isplitl [Ho]; · iexact Ho
  isplitl [Hs0]; · iexact Hs0
  isplitl [Hs3]; · iexact Hs3
  isplitl [Hp Ht0 Ht1]
  · unfold chTok
    rw [bigSep_sep', bigSep_sep']
    isplitl [Hp]; · iexact Hp
    isplitl [Ht0] <;> iassumption
  isplitl [Ht2 Ht3]
  · unfold gaTok
    rw [bigSep_sep']
    isplitl [Ht2] <;> iassumption
  isplitl [Ha0]; · iexact Ha0
  isplitl [Hc1 Ha1]
  · iapply (waits_of 1 c); isplitl [Hc1] <;> iassumption
  isplitl [Ha2]; · iexact Ha2
  iapply (waits_of 3 c); isplitl [Hc3] <;> iassumption

/-- The run's last waits leave payloads and positions. -/
theorem waitDone_eq (a : Fin 4) (c : Dev nD) : bigSep Finset.univ (waitDone m a c)
    = iprop((bigSep Finset.univ fun d => dmaPay m a d c) ∗ bigSep Finset.univ fun d => atPos ER (cell (key a d) c) 1 ∅ 0) := by
  unfold waitDone; rw [bigSep_sep']

/-- A whole block owned is its buffer held. -/
theorem pts_of_owns (c : Dev nD) (q : PosShare TreeShare) (X : cc0_scratch3.ty.Contents (Elt F)) :
    owns (c : Thread nD τ) gM q X ⊢ (((c : Thread nD τ).loc cc0_scratch3) ↦{q} X : sProp 𝕄) := by
  unfold owns; simp only [Memref.view_whole, View.read_whole, View.set_whole]
  iintro ⟨%f, %hf, H⟩
  subst hf
  iexact H

/-- Slots owned are slots held. -/
theorem fam_free (M : Memref sig .tc .vmem S8x128x1024 .bf16) (hM : M.view.set = Finset.univ) (c : Dev nD) (f₀ : Buf (Elt F) (M.view.loc (c : Thread nD τ)))
    (X : Fin 7 → FVec F S128x1024 .bf16) :
    iprop(free (F := F) M 0 c ∗ bigSep Finset.univ fun d : Fin 7 => owns (c : Thread nD τ) (slotM M d.succ) fullShare (X d))
      ⊢ iprop(∃ f : Buf (Elt F) (M.view.loc (c : Thread nD τ)), M.view.loc (c : Thread nD τ) ↦{fullShare} f) := by
  iintro ⟨H0, H⟩
  iapply (slots_join M hM c f₀)
  isplitl [H0]; · iexact H0
  iapply (fam_mono (F := F) (Φ := fun d : Fin 7 => owns (c : Thread nD τ) (slotM M d.succ) fullShare (X d)) (Ψ := fun d : Fin 7 => free (F := F) M d.succ c)
    fun d => free_of_owns M d.succ c (X d))
  iexact H

/-- The gathered block's shares put together. -/
theorem fam_pts (c : Dev nD) (X : cc0_scratch3.ty.Contents (Elt F)) :
    iprop(owns (c : Thread nD τ) gM (Transfers.shareDrop fullShare 7) X
        ∗ bigSep Finset.univ fun d : Fin 7 => owns (c : Thread nD τ) gM (Transfers.shareTok fullShare 7 d) X)
      ⊢ (((c : Thread nD τ).loc cc0_scratch3) ↦{fullShare} X : sProp 𝕄) := by
  iintro ⟨H0, H⟩
  iapply (Transfers.pointsTo_toks_join fullShare 7)
  isplitl [H0]
  · iapply (pts_of_owns c); iexact H0
  · iapply (fam_mono (F := F) (Φ := fun d : Fin 7 => owns (c : Thread nD τ) gM (Transfers.shareTok fullShare 7 d) X)
      (Ψ := fun d : Fin 7 => iprop(((c : Thread nD τ).loc cc0_scratch3) ↦{Transfers.shareTok fullShare 7 d} X))
      fun d => pts_of_owns c (Transfers.shareTok fullShare 7 d) X)
    iexact H

/-- The buffers as the run leaves them are the scratch buffers at some contents. -/
theorem scratch_back (c : Dev nD) :
    iprop((free (F := F) pM 0 c ∗ bigSep Finset.univ fun d => dmaPay m 0 d c) ∗ (free (F := F) rM 0 c ∗ bigSep Finset.univ fun d => dmaPay m 1 d c)
        ∗ (owns (c : Thread nD τ) gM (Transfers.shareDrop fullShare 7) (tot m c) ∗ bigSep Finset.univ fun d => dmaPay m 2 d c)
        ∗ (free (F := F) aM 0 c ∗ bigSep Finset.univ fun d => dmaPay m 3 d c) ∗ pts c cc0_scratch0 (ws m c))
      ⊢ scratch (F := F) c := by
  unfold scratch dmaPay
  rw [scopedRest0_eq]
  iintro ⟨⟨Hp0, Hp⟩, ⟨Hr0, Hr⟩, ⟨Hg0, Hg⟩, ⟨Ha0, Ha⟩, Hb⟩
  isplitl [Hb]; · iexists _; iexact Hb
  isplitl [Hp0 Hp]
  · iapply (fam_free pM (View.set_whole _) c (fun _ => FloatOps.ofBits .bf16 0) (fun d => part m c (peer c d)))
    isplitl [Hp0] <;> iassumption
  isplitl [Hr0 Hr]
  · iapply (fam_free rM (View.set_whole _) c (fun _ => FloatOps.ofBits .bf16 0) (fun d => part m (peer c d) c))
    isplitl [Hr0] <;> iassumption
  isplitl [Hg0 Hg]
  · iexists (tot m c)
    iapply (fam_pts c (tot m c))
    isplitl [Hg0] <;> iassumption
  · iapply (fam_free aM (View.set_whole _) c (fun _ => FloatOps.ofBits .bf16 0) (fun d => tot m (peer c d)))
    isplitl [Ha0] <;> iassumption

/-- The staged operands and the result, after the body. -/
def written (c : Dev nD) : sProp 𝕄 :=
  iprop(pts c cc0_stg0_0 (xs m c) ∗ pts c cc0_stg1_0 (ids m c) ∗ pts c cc0_stg2_0 (ws m c) ∗ pts c cc0_stg3_0 (outV m))

/-- What the run leaves: the cells closed, the buffers whole. -/
theorem walk_exit (K : Dev nD × Key → ℕ) (c : Dev nD) :
    iprop(records m K ∗ walkPost m c ∗ aside (F := F) c) ⊢ |={Set.univ}=> iprop(ow (F := F) c 0 ∗ Φ₁ (F := F) c ∗ written m c) := by
  unfold walkPost aside opnds
  simp only [waitDone_eq]
  iintro ⟨#HR, ⟨HO, Hab, ⟨Hx, Hi, Hb⟩, Hw, Ho, Hg, ⟨Hp, Ha0⟩, ⟨Hr, Ha1⟩, ⟨Hgs, Ha2⟩, Ha, Ha3⟩, Hp0, Hr0, Hg0, Haz⟩
  imod (close_all m K c) $$ [Hab Haz Ha0 Ha1 Ha2 Ha3] with Hz
  · isplitr; · iexact HR
    rw [bigSep_keys, bigSep_sep', bigSep_arrays fun a => bigSep Finset.univ fun d : Fin 7 => atPos ER (cell (key a d) c) (endRound (key a d)) ∅ 0]
    isplitl [Hab]; · iexact Hab
    isplitl [Haz]; · iexact Haz
    isplitl [Ha0]; · iexact Ha0
    isplitl [Ha1]; · iexact Ha1
    isplitl [Ha2]; · iexact Ha2
    iexact Ha3
  imodintro
  isplitl [HO]; · iexact HO
  isplitr [Hx Hi Hw Ho]; swap
  · unfold written
    isplitl [Hx]; · iexact Hx
    isplitl [Hi]; · iexact Hi
    isplitl [Hw] <;> iassumption
  unfold Φ₁
  rw [sems_zero]
  isplitl [Hz]; · iexact Hz
  iapply (scratch_back m c)
  isplitl [Hp0 Hp]; · isplitl [Hp0] <;> iassumption
  isplitl [Hr0 Hr]; · isplitl [Hr0] <;> iassumption
  isplitl [Hg Hgs]; · isplitl [Hg] <;> iassumption
  isplitl [Hg0 Ha]; · isplitl [Hg0] <;> iassumption
  iexact Hb

/-! ## The pipeline's data and the body's obligation -/

theorem cfg0_N : cfg0.N = 1 := by decide
/-- The one grid point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The launch's data: the arrays, what the body leaves staged, and what a device owes. -/
def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => ids m c
    | ⟨2, _⟩ => ws m c
    | ⟨3, _⟩ => outV m
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))

def bodyPost (c : Dev nD) : sProp 𝕄 :=
  iprop(Φ₁ (F := F) c ∗ (dats m 0 c).owesAt () t₀.succ ∗ stg c cc0_stg0_0 (xs m c) ∗ stg c cc0_stg1_0 (ids m c) ∗ stg c cc0_stg2_0 (ws m c)
    ∗ stg c cc0_stg3_0 (outV m))

/-- The body, from what the pipeline stages to what it writes back. -/
theorem sound_body (c : Dev nD) :
    bodyPre m c ⊢ WP c (cc0_body (F := F) xM (Memref.isWhole_whole _) iM (Memref.isWhole_whole _) wM (Memref.isWhole_whole _) oM (Memref.isWhole_whole _)
     bM (Memref.isWhole_whole _) pM (Memref.isWhole_whole _) rM (Memref.isWhole_whole _) gM (Memref.isWhole_whole _) aM (Memref.isWhole_whole _) cc0_scratch5 cc0_scratch6 cc0_scratch7 cc0_scratch8)
      (fun _ => bodyPost m c) := by
  unfold bodyPre Φ₀ start
  iintro ⟨⟨⟨⟨%K, #HR, Hlin⟩, Hcr, #Hlev⟩, Hscr⟩, Ho, ⟨%d0, %g0, %hg0, Hx⟩, ⟨%d1, %g1, %hg1, Hi⟩, ⟨%d2, %g2, %hg2, Hw⟩, ⟨%d3, %g3, %hg3, Hout⟩⟩
  have hx : g0 = xs m c := by rw [hg0]; unfold Dat.before; rw [if_pos (fetch0_0 t₀)]; rfl
  have hi : g1 = ids m c := by rw [hg1]; unfold Dat.before; rw [if_pos (fetch0_1 t₀)]; rfl
  have hw : g2 = ws m c := by rw [hg2]; unfold Dat.before; rw [if_pos (fetch0_2 t₀)]; rfl
  subst hx hi hw
  unfold Dat.owesAt Pipeline.owesWithin
  icases Ho with ⟨%W, %hW, HO⟩
  rw [show (dats m 0 c).owed t₀.castSucc = O₀ c from rfl]
  ihave H := (walk_enter m c) $$ [Hlin Hcr Hscr HO Hx Hi Hw Hout]
  · isplitl [Hlin]; · iexact Hlin
    isplitl [Hcr]; · iexact Hcr
    isplitl [Hscr]; · iexact Hscr
    isplitl [HO]; · unfold ow; iexists W; iexact HO
    unfold staged
    isplitl [Hx]; · iexact Hx
    isplitl [Hi]; · iexact Hi
    isplitl [Hw]; · iexact Hw
    iexists g3; iexact Hout
  icases H with ⟨Hpre, Haside⟩
  iapply (walk m K c fun _ => bodyPost m c)
  isplitr; · iexact HR
  isplitr; · iexact Hlev
  isplitl [Hpre]; · iexact Hpre
  iintro Hpost
  imod (walk_exit m K c) $$ [Hpost Haside] with H
  · isplitr; · iexact HR
    isplitl [Hpost] <;> iassumption
  imodintro
  unfold ow written bodyPost Dat.owesAt Pipeline.owesWithin
  icases H with ⟨⟨%W', HO⟩, HΦ, Hx, Hi, Hw, Hout⟩
  rw [show (dats m 0 c).owed t₀.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

set_option maxHeartbeats 1600000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  exact sound_body m c

end Cert.KernelIdealProof
-- ==== Proof.Launch.lean ====
/-
# 01_k: the launch

The ghost state at the launch, the credit of the devices, and the whole run: it ends, with the arguments unchanged and all counters at zero.
-/
module

public import proofs.«01_k».proof.Proof.Body
public import Idealize.ShloMosaic.Lib.Pipeline.CollectiveSegs
public import Idealize.ShloMosaic.Lib.StableHlo.RunHlo

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

section Launch

/-! ## The launch's ghost state -/

theorem ownSemFacts : Pipeline.OwnSemFacts cfg0.spec osem := by decide

theorem share_eq (c : Dev nD) (w : Fin cfg0.W) : (dats m 0 c).share w = fullShare := by unfold Dat.share; split <;> rfl

/-- The kernel's cells, of all devices. -/
def ringCells : Finset (GSem nD τ sig) := Finset.univ.map ⟨fun p : Dev nD × Key => cell p.2 p.1, cell_prod_inj⟩

/-- A kind of duty: the barrier's, or one of the four arrays'. -/
abbrev Kind : Type := Option (Fin 4)

/-- The duty of kind `k` and step `r` at a device's cells. -/
def tokOf (p : Dev nD × Kind × Fin 7) : GSem nD τ sig × ℕ × Fin 7 := match p.2.1 with
  | none => (cell none p.1, 0, p.2.2)
  | some a => (cell (key a p.2.2) p.1, 0, 0)

theorem tokOf_inj : Function.Injective tokOf := by
  rintro ⟨c, k, r⟩ ⟨c', k', r'⟩ h
  rcases k with _ | a <;> rcases k' with _ | a'
  · have h1 : c = c' := (cell_inj (congrArg Prod.fst h)).2
    have h2 : r = r' := congrArg (fun x : GSem nD τ sig × ℕ × Fin 7 => x.2.2) h
    rw [h1, h2]
  · exact absurd (cell_inj (k := none) (k' := key a' r') (congrArg Prod.fst h)).1 (by simp)
  · exact absurd (cell_inj (k := key a r) (k' := none) (congrArg Prod.fst h)).1 (by simp)
  · obtain ⟨h1, h2⟩ := cell_inj (k := key a r) (k' := key a' r') (congrArg Prod.fst h)
    have h3 := Option.some.inj h1
    have h4 : a = a' := congrArg Prod.fst h3
    have h5 : r = r' := Fin.succ_injective 7 (congrArg Prod.snd h3)
    have h6 : c = c' := h2
    rw [h4, h5, h6]

/-- The duties of all cells. -/
def ringToks : Finset (GSem nD τ sig × ℕ × Fin 7) := Finset.univ.map ⟨tokOf, tokOf_inj⟩

/-- The launch's element: the pipeline's, and the kernel's cells and duties. -/
def u₀ : UU :=
  (initOf (Pipeline.cells cfgs cellOf_inj) (Pipeline.launchToks cfgs cellOf_inj), initOf ringCells ringToks)

/-- The duties at a device's own cells. -/
def toks (c : Dev nD) : sProp 𝕄 :=
  iprop((bigSep Finset.univ fun r : Fin 7 => dutyTok ER (cell none c) 0 r)
    ∗ (bigSep Finset.univ fun r : Fin 7 => dutyTok ER (cell (key 0 r) c) 0 0)
    ∗ (bigSep Finset.univ fun r : Fin 7 => dutyTok ER (cell (key 1 r) c) 0 0)
    ∗ (bigSep Finset.univ fun r : Fin 7 => dutyTok ER (cell (key 2 r) c) 0 0)
    ∗ bigSep Finset.univ fun r : Fin 7 => dutyTok ER (cell (key 3 r) c) 0 0)

theorem bigSep_kinds {M : Type} [URA M] (Φ : Kind → sProp M) :
    bigSep Finset.univ Φ = iprop(Φ none ∗ Φ (some 0) ∗ Φ (some 1) ∗ Φ (some 2) ∗ Φ (some 3)) :=
  bigSep_univ_eq_bigSepL [none, some 0, some 1, some 2, some 3] (by decide) (by decide) Φ

/-- What the launch's element deals a device. -/
def G (c : Dev nD) : sProp 𝕄 :=
  iprop((bigSep Finset.univ fun k : Key => roundState ER (rd m) (cell k c) 0)
    ∗ (bigSep Finset.univ fun k : Key => iprop(atPos ER (cell k c) 0 ∅ 0 ∗ reached ER (cell k c) 0)) ∗ toks (F := F) c)

/-- What the devices make of it together. -/
def G' (c : Dev nD) : sProp 𝕄 := iprop(∃ K, records m K ∗ linear (F := F) c)

theorem fund_ring : BI.own (ER (initOf ringCells ringToks)) ⊢ (|==> bigSep Finset.univ (G m) : sProp 𝕄) := by
  have hX (Φ : GSem nD τ sig → sProp (MT nD τ sig Unit (Elt F) ℕ UU ℕ)) :
      bigSep ringCells Φ = bigSep Finset.univ fun c : Dev nD => bigSep Finset.univ fun k : Key => Φ (cell k c) := by
    unfold ringCells; rw [bigSep_map, bigSep_univ_prod]; rfl
  have hT : bigSep ringToks (fun x => (dutyTok ER x.1 x.2.1 x.2.2 : sProp (MT nD τ sig Unit (Elt F) ℕ UU ℕ))) = bigSep Finset.univ fun c : Dev nD => toks (F := F) c := by
    unfold ringToks; rw [bigSep_map, bigSep_univ_prod]
    exact bigSep_congr fun c _ => by unfold toks; rw [bigSep_univ_prod, bigSep_kinds]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's counters become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Key => iprop(∃ κ : ℕ, cellInv ER (rd m) κ (cell k c)))
          ∗ (bigSep Finset.univ fun k : Key => iprop(atPos ER (cell k c) 0 ∅ 0 ∗ reached ER (cell k c) 0)) ∗ toks (F := F) c) := by
  unfold G
  iintro ⟨Hos, Hus, Hst, Hat, Htok⟩
  ihave Hv := (Entails.of_eq (sems_zero (F := F) c)) $$ [Hos Hus]
  · isplitl [Hos] <;> iassumption
  imod (show iprop((bigSep Finset.univ fun k : Key => semVal (cell k c) 0) ∗ bigSep Finset.univ fun k : Key => roundState ER (rd m) (cell k c) 0)
      ⊢ (|={Set.univ}=> bigSep Finset.univ fun k : Key => iprop(∃ κ : ℕ, cellInv ER (rd m) κ (cell k c)) : sProp (MT nD τ sig Unit (Elt F) ℕ UU ℕ)) from by
        rw [← bigSep_sep']
        exact (bigSep_mono fun k _ => (Rounds.body_intro ER (rd m) (cell k c)).trans inv_alloc).trans (bigSep_fupd _ _)) $$ [Hv Hst] with Hinv
  · isplitl [Hv] <;> iassumption
  imodintro
  isplitl [Hinv]; · iexact Hinv
  isplitl [Hat]; · iexact Hat
  iexact Htok

/-- A family over devices and steps, each member taken from the other end. -/
theorem deal {M : Type} [URA M] (Ψ : Dev nD → Fin 7 → sProp M) :
    (bigSep Finset.univ fun c : Dev nD => bigSep Finset.univ fun r : Fin 7 => Ψ c r)
      = bigSep Finset.univ fun c : Dev nD => bigSep Finset.univ fun r : Fin 7 => Ψ (peer c r) (rv r) := by
  rw [← bigSep_univ_prod (fun p : Dev nD × Fin 7 => Ψ p.1 p.2), bigSep_univ_equiv around, bigSep_univ_prod]
  rfl

/-- The duties dealt to the devices that pay them. -/
theorem toks_around : (bigSep Finset.univ fun c : Dev nD => (toks c : sProp 𝕄)) = bigSep Finset.univ fun c : Dev nD => payToks (F := F) c := by
  unfold toks payToks
  simp only [bigSep_sep']
  rw [deal fun c r => (dutyTok ER (cell none c) 0 r : sProp (MT nD τ sig Unit (Elt F) ℕ UU ℕ)),
    deal fun c r => (dutyTok ER (cell (key 1 r) c) 0 0 : sProp (MT nD τ sig Unit (Elt F) ℕ UU ℕ)),
    deal fun c r => (dutyTok ER (cell (key 3 r) c) 0 0 : sProp (MT nD τ sig Unit (Elt F) ℕ UU ℕ))]

/-- The devices' invariants known to all, and the duties dealt. -/
theorem regroup :
    (bigSep Finset.univ fun c : Dev nD => iprop((bigSep Finset.univ fun k : Key => iprop(∃ κ : ℕ, cellInv ER (rd m) κ (cell k c)))
          ∗ (bigSep Finset.univ fun k : Key => iprop(atPos ER (cell k c) 0 ∅ 0 ∗ reached ER (cell k c) 0)) ∗ toks (F := F) c) : sProp 𝕄)
      ⊢ bigSep Finset.univ (G' m) := by
  simp only [bigSep_sep']
  rw [← bigSep_univ_prod (fun p : Dev nD × Key => iprop(∃ κ : ℕ, cellInv ER (rd m) κ (cell p.2 p.1))),
    ← bigSep_univ_prod (fun p : Dev nD × Key => (reached ER (cell p.2 p.1) 0 : sProp (MT nD τ sig Unit (Elt F) ℕ UU ℕ))), toks_around]
  iintro ⟨HI, ⟨Hat, #HR⟩, Htok⟩
  ihave HK := (BI.bigSep_exists_pi Finset.univ (fun (p : Dev nD × Key) (κ : ℕ) => (cellInv ER (rd m) κ (cell p.2 p.1) : sProp (MT nD τ sig Unit (Elt F) ℕ UU ℕ)))) $$ HI
  icases HK with ⟨%K, #HI⟩
  have hG (c : Dev nD) : iprop(records m K ∗ linear (F := F) c) ⊢ G' m c := by
    unfold G'; iintro H; iexists K; iexact H
  iapply (fam_with (F := F) (R := records m K) hG)
  isplitr
  · unfold records; isplitl; · iexact HI
    iexact HR
  · unfold linear
    rw [bigSep_sep']
    isplitl [Hat] <;> iassumption

/-- The devices' step at the launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- What all devices owe a cell by transfers or signals to their peers, counted at the receiving end. -/
theorem sum_around (g : Dev nD → Fin 7 → GSem nD τ sig) (n : ℕ) (g' : GSem nD τ sig) :
    (∑ d : Dev nD, (∑ r : Fin 7, (tallyAt (g (peer d r) (rv r)) () n : CellTallies nD τ sig Unit)) g' ())
      = ∑ p : Dev nD × Fin 7, if g p.1 p.2 = g' then n else 0 := by
  rw [← Equiv.sum_comp around, Fintype.sum_prod_type]
  refine Finset.sum_congr rfl fun d _ => ?_
  rw [Finset.sum_apply, Finsupp.finset_sum_apply]
  refine Finset.sum_congr rfl fun r _ => ?_
  rw [tallyAt_apply]
  by_cases h : g' = g (peer d r) (rv r)
  · rw [if_pos ⟨h, rfl⟩]; exact (if_pos h.symm).symm
  · rw [if_neg fun e => h e.1]; exact (if_neg fun e => h e.symm).symm

theorem owed_bar (k : Key) (c : Dev nD) : (∑ d : Dev nD, Obar d 0 (cell k c) ()) = if k = none then 7 else 0 := by
  unfold Obar
  rw [todo_zero, sum_around fun c _ => cell none c]
  by_cases h : k = none
  · subst h
    rw [if_pos rfl, Fintype.sum_prod_type, Finset.sum_eq_single c]
    · simp
    · exact fun d _ hd => Finset.sum_eq_zero fun r _ => if_neg fun e => hd (cell_inj e).2
    · exact fun h => absurd (Finset.mem_univ _) h
  · rw [if_neg h]
    exact Finset.sum_eq_zero fun p _ => if_neg fun e => h (cell_inj e).1.symm

theorem owed_dma_bar (a : Fin 4) (c : Dev nD) : (∑ d : Dev nD, Odma a d 0 (cell none c) ()) = 0 := by
  unfold Odma
  rw [todo_zero, sum_around fun c r => cell (key a r) c]
  exact Finset.sum_eq_zero fun p _ => if_neg fun e => absurd (cell_inj (k := key a p.2) (k' := none) e).1 (by simp)

theorem owed_dma (a b : Fin 4) (r : Fin 7) (c : Dev nD) : (∑ d : Dev nD, Odma a d 0 (cell (key b r) c) ()) = if a = b then N else 0 := by
  unfold Odma
  rw [todo_zero, sum_around fun c r => cell (key a r) c]
  have h (p : Dev nD × Fin 7) (e : cell (key a p.2) p.1 = cell (key b r) c) : a = b ∧ p = (c, r) := by
    obtain ⟨h1, h2⟩ := cell_inj (k := key a p.2) (k' := key b r) e
    have h3 := Option.some.inj h1
    exact ⟨congrArg Prod.fst h3, Prod.ext h2 (Fin.succ_injective 7 (congrArg Prod.snd h3))⟩
  by_cases hab : a = b
  · subst hab
    rw [if_pos rfl, Finset.sum_eq_single (c, r)]
    · exact if_pos rfl
    · exact fun p _ hp => if_neg fun e => hp (h p e).2
    · exact fun h => absurd (Finset.mem_univ _) h
  · rw [if_neg hab]
    exact Finset.sum_eq_zero fun p _ => if_neg fun e => hab (h p e).1

/-- All that is owed a cell. -/
theorem owed_cell (k : Key) (c : Dev nD) : (∑ d : Dev nD, O₀ d (cell k c) ())
    = (∑ d : Dev nD, Odma 3 d 0 (cell k c) ()) + (∑ d : Dev nD, Odma 1 d 0 (cell k c) ()) + ∑ d : Dev nD, Obar d 0 (cell k c) () := by
  rw [← Finset.sum_add_distrib, ← Finset.sum_add_distrib]; rfl

theorem launch_cell (k : Key) (c : Dev nD) (n : ℕ) (h : (∑ d : Dev nD, O₀ d (cell k c) ()) = n) :
    tallyOn (cell k c) (launchCredit (Pipeline.owing O₀) 0 (cell k c)) = (tallyAt (cell k c) () n : CellTallies nD τ sig Unit) := by
  unfold tallyAt; refine congrArg _ (Finsupp.ext fun u => ?_); cases u
  rw [Pipeline.launchCredit_owing, Finsupp.single_eq_same, h]

theorem launch_bar (c : Dev nD) : tallyOn (cell none c) (launchCredit (Pipeline.owing O₀) 0 (cell none c)) = (tallyAt (cell none c) () 7 : CellTallies nD τ sig Unit) :=
  launch_cell none c 7 (by rw [owed_cell, owed_dma_bar, owed_dma_bar, owed_bar]; rfl)

theorem launch_key (a : Fin 4) (r : Fin 7) (c : Dev nD) (h : a = 1 ∨ a = 3) :
    tallyOn (cell (key a r) c) (launchCredit (Pipeline.owing O₀) 0 (cell (key a r) c)) = (tallyAt (cell (key a r) c) () N : CellTallies nD τ sig Unit) :=
  launch_cell (key a r) c N (by
    rw [owed_cell, owed_dma, owed_dma, owed_bar, if_neg (Option.some_ne_none (a, r.succ) : key a r ≠ none)]
    rcases h with rfl | rfl
    · rw [if_neg (by decide : ¬ (3 : Fin 4) = 1), if_pos rfl, Nat.zero_add, Nat.add_zero]
    · rw [if_pos rfl, if_neg (by decide : ¬ (1 : Fin 4) = 3), Nat.add_zero])

/-- The launch's credit holds what the body waits for. -/
theorem creds_intro (c : Dev nD) : (Pipeline.launchCred O₀ c : sProp 𝕄) ⊢ creds (F := F) c := by
  have h : (Pipeline.launchCred O₀ c : sProp (MT nD τ sig Unit (Elt F) ℕ UU ℕ))
      ⊢ bigSep Finset.univ fun k : Key => cred (tallyOn (cell k c) (launchCredit (Pipeline.owing O₀) 0 (cell k c))) := by
    unfold Pipeline.launchCred
    have e := bigSep_map (M := MT nD τ sig Unit (Elt F) ℕ UU ℕ) (s := (Finset.univ : Finset Key)) ⟨csem, csem_inj⟩ (Φ := fun sm : SemLoc sig =>
      cred (tallyOn ((c : Thread nD τ), sm) (launchCredit (Pipeline.owing O₀) 0 ((c : Thread nD τ), sm))))
    have e' := bigSep_subset (M := MT nD τ sig Unit (Elt F) ℕ UU ℕ) (Finset.subset_univ (Finset.univ.map ⟨csem, csem_inj⟩)) (Φ := fun sm : SemLoc sig =>
      cred (tallyOn ((c : Thread nD τ), sm) (launchCredit (Pipeline.owing O₀) 0 ((c : Thread nD τ), sm))))
    rw [e] at e'
    exact e'
  have e (a : Fin 4) (ha : a = 1 ∨ a = 3) :
      (bigSep Finset.univ fun d : Fin 7 => (cred (tallyOn (cell (key a d) c) (launchCredit (Pipeline.owing O₀) 0 (cell (key a d) c))) : sProp (MT nD τ sig Unit (Elt F) ℕ UU ℕ)))
        = bigSep Finset.univ fun d : Fin 7 => cred (tallyAt (cell (key a d) c) () N) := bigSep_congr fun d _ => by rw [launch_key a d c ha]
  rw [bigSep_keys, bigSep_sep', bigSep_arrays fun a => bigSep Finset.univ fun d : Fin 7 => cred (tallyOn (cell (key a d) c) (launchCredit (Pipeline.owing O₀) 0 (cell (key a d) c))), launch_bar,
    e 1 (Or.inl rfl), e 3 (Or.inr rfl)] at h
  refine h.trans ?_
  unfold creds
  iintro ⟨Hb, -, -, H1, -, H3⟩
  isplitl [Hb]; · iexact Hb
  isplitl [H1] <;> iassumption

/-! ## The run -/

/-- The argument that no window stages, at the launch's contents. -/
def spare (c : Dev nD) : sProp 𝕄 := iprop(((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ spare m c) := by
  rw [Pipeline.unscopedRestP_none, unscopedRest0_eq]
  iintro ⟨Hz, Hlev, Hcr, -, HG⟩
  ihave Hc := (creds_intro (F := F) c) $$ Hcr
  imodintro
  unfold start G' spare
  isplitr [Hz]; swap; · iexact Hz
  isplitl [HG]; · iexact HG
  isplitl [Hc] <;> iassumption

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl]
  unfold Φ₁
  iintro ⟨⟨Ho, Hu⟩, Hr⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait c _ 0 (by revert c w s; decide) _ (by
      rcases t with ⟨_ | _, ht⟩
      · exact above_O₀ c
      · exact Above.zero 0)

/-- An array after the run. -/
def finalA (c : Dev nD) (w : Fin cfg0.W) : Buf (Elt F) ((cfg0.win w).arr.view.loc (c : Thread nD τ)) := (dats m 0 c).arrAt w cfg0.N

/-- The final states: the windows' arrays at their final contents, the spare argument unchanged. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

/-- The spare argument's contents read off the final state. -/
theorem spare_read (c : Dev nD) (s' : Phys nD τ sig (Elt F)) :
    iprop(spare m c ∗ SI s') ⊢ iprop(⌜s'.mem.mem ((c : Thread nD τ).loc main_arg1) = m ((c : Thread nD τ).loc main_arg1)⌝ ∗ SI s') := by
  have h := Idealize.ShloMosaic.pointsTo_read_all (Ix := Unit) (Name := ℕ) (U := UU) (Lvl := ℕ) ({()} : Finset Unit) (fun _ => (c : Thread nD τ).loc main_arg1)
    (fun _ => m ((c : Thread nD τ).loc main_arg1)) s'
  rw [bigSep_singleton] at h
  unfold spare
  iintro H
  ihave H := (h) $$ H
  icases H with ⟨%hm, HSI⟩
  isplitr; · ipureintro; exact hm () (Finset.mem_singleton_self _)
  iexact HSI

set_option maxRecDepth 16384 in
/-- On eight devices, for any float values, from any memory with zero counters: every weakly fair execution of the kernel — the handshake,
    the exchange of partial products, the sum, the gather — ends, every final state has the arrays at their final contents and every
    semaphore counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := spare m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hz, HSI⟩
      ihave H := (spare_read m c s') $$ [Hz HSI]
      · isplitl [Hz] <;> iassumption
      icases H with ⟨%hz, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, hz⟩
      iexact HSI)
    (hQ := fun _ h hs => ⟨fun c => ⟨fun w => (h c).1 w, (h c).2.2.2⟩, sem_eq_zero hs fun c => (h c).2.2.1⟩)

/-- An operand's array after the run holds what it held. -/
theorem finalA_x (c : Dev nD) : finalA m c (0 : Fin 4) = m ((c : Thread nD τ).loc main_arg0) :=
  (dats (F := F) m 0 c).arrAt_in (0 : Fin 4) rfl _
theorem finalA_i (c : Dev nD) : finalA m c (1 : Fin 4) = m ((c : Thread nD τ).loc main_arg2) :=
  (dats (F := F) m 0 c).arrAt_in (1 : Fin 4) rfl _
theorem finalA_w (c : Dev nD) : finalA m c (2 : Fin 4) = m ((c : Thread nD τ).loc main_arg3) :=
  (dats (F := F) m 0 c).arrAt_in (2 : Fin 4) rfl _

/-- The arguments unchanged, all counters at zero, on every device. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_mono (run_main m ρ) fun r h => ⟨fun c => ⟨((h.1 c).1 (0 : Fin 4)).trans (finalA_x m c), (h.1 c).2, ((h.1 c).1 (1 : Fin 4)).trans (finalA_i m c),
    ((h.1 c).1 (2 : Fin 4)).trans (finalA_w m c)⟩, h.2⟩

end Launch
end Cert.KernelIdealProof
-- ==== Proof.Value.lean ====
/-
# 01_k: what the kernel computes

The result over the extended reals: every token through its own expert.
-/
module

public import proofs.«01_k».proof.Proof.Launch
public import Idealize.ShloMosaic.Lib.Pointwise
public import Idealize.ShloMosaic.Lib.Layout
public import Idealize.ShloMosaic.Lib.Pipeline.ValueKit.Geometry
public import Idealize.ShloMosaic.Lib.IdealHost

@[expose] public section

set_option maxRecDepth 16384

noncomputable section

namespace Cert.KernelIdealProof

open Cert.KernelIdeal Cert.KernelIdeal.Gen

open Idealize.ShloMosaic
open Idealize.ShloMosaic.TcCoe

/-- One expert's product of a row: the row through the expert's matrix if it is routed there, and zero if not. -/
theorem prodOf_apply (w : BitVec 32) (x : Vec Ideal S128x512 .bf16) (i : Vec Ideal S128x1 .i32) (e : Vec Ideal S1x512x1024 .bf16)
    (r : Fin 128) (l : Fin 1024) :
    prodOf (F := Ideal) w x i e (ix2 r l) = if i (ix2 r 0) = w then ∑ d : Fin 512, x (ix2 r d) * e (ix3 0 d l) else (0 : EReal) := by
  unfold prodOf
  pointwise
  by_cases h : i (ix2 r 0) = w
  · rw [if_pos h]
    refine Finset.sum_congr rfl fun d _ => ?_
    rw [show IntOp.cmpi CmpIPredicate.eq (i (ix2 r 0)) w = 1#1 by simp [IntOp.cmpi, h]]
    rfl
  · rw [if_neg h]
    refine Finset.sum_eq_zero fun d _ => ?_
    rw [show IntOp.cmpi CmpIPredicate.eq (i (ix2 r 0)) w = 0#1 by
      show BitVec.ofBool (i (ix2 r 0) == w) = 0#1
      rw [beq_eq_false_iff_ne.mpr h]; rfl]
    show Ideal.ofBits FTy.bf16 0 * _ = (0 : EReal)
    rw [show Ideal.ofBits FTy.bf16 0 = 0 from Idealize.ShloMosaic.Ideal.ofBits_zero _, zero_mul]

/-- A device's staged operands are its arrays. -/
theorem xs_eq (m : (ℓ : Loc nD τ sig) → Buf (Elt Ideal) ℓ) (c : Dev nD) : xs m c = m ((c : Thread nD τ).loc main_arg0) :=
  Memref.read_access_unit_zero (Elt Ideal) main_arg0 (funext fun a => by fin_cases a <;> rfl) _ _
theorem ids_eq (m : (ℓ : Loc nD τ sig) → Buf (Elt Ideal) ℓ) (c : Dev nD) : ids m c = m ((c : Thread nD τ).loc main_arg2) :=
  Memref.read_access_unit_zero (Elt Ideal) main_arg2 (funext fun a => by fin_cases a <;> rfl) _ _
theorem ws_eq (m : (ℓ : Loc nD τ sig) → Buf (Elt Ideal) ℓ) (c : Dev nD) : ws m c = m ((c : Thread nD τ).loc main_arg3) :=
  Memref.read_access_unit_zero (Elt Ideal) main_arg3 (funext fun a => by fin_cases a <;> rfl) _ _

theorem word_eq : ∀ (s : Dev nD) (k : Fin 4), Scalar.addi (Scalar.muli (meW s) 4#32) (BitVec.ofNat 32 k.val) = BitVec.ofNat 32 (4 * s.val + k.val) := by decide

/-- A row's product by one expert of a device. -/
def term (X : FVec Ideal S1024x512 .bf16) (I : Vec Ideal S1024x1 .i32) (W : FVec Ideal S4x512x1024 .bf16) (s : Dev nD) (k : Fin 4) (n : Fin 1024) (l : Fin 1024) : EReal :=
  if I (ix2 n 0) = BitVec.ofNat 32 (4 * s.val + k.val) then ∑ d : Fin 512, X (ix2 n d) * W (ix3 k d l) else 0

/-- A block of rows, of tokens or of route indices, and an expert, read at an index. -/
theorem load_x (X : FVec Ideal S1024x512 .bf16) (c : Dev nD) (r : Fin 128) (d : Fin 512) (h : 128 * c.val + r.val < 1024) :
    xM.view.readAt (Elt Ideal) (xR c).toLoadRect X (ix2 r d) = X (ix2 ⟨128 * c.val + r.val, h⟩ d) := by
  show X ((xR c).emb (ix2 r d)) = _
  refine congrArg X (funext fun a => Fin.ext ?_)
  match a with
  | ⟨0, _⟩ => show 128 * c.val + 1 * r.val = 128 * c.val + r.val; omega
  | ⟨1, _⟩ => show 0 + 1 * d.val = d.val; omega
theorem load_i (X : Vec Ideal S1024x1 .i32) (c : Dev nD) (r : Fin 128) (h : 128 * c.val + r.val < 1024) :
    iM.view.readAt (Elt Ideal) (iR c).toLoadRect X (ix2 r 0) = X (ix2 ⟨128 * c.val + r.val, h⟩ 0) := by
  show X ((iR c).emb (ix2 r 0)) = _
  refine congrArg X (funext fun a => Fin.ext ?_)
  match a with
  | ⟨0, _⟩ => show 128 * c.val + 1 * r.val = 128 * c.val + r.val; omega
  | ⟨1, _⟩ => rfl
theorem load_w (X : FVec Ideal S4x512x1024 .bf16) (k : Fin 4) (d : Fin 512) (l : Fin 1024) :
    bM.view.readAt (Elt Ideal) (bR k).toLoadRect X (ix3 0 d l) = X (ix3 k d l) := by
  show X ((bR k).emb (ix3 0 d l)) = _
  refine congrArg X (funext fun a => Fin.ext ?_)
  match a with
  | ⟨0, _⟩ => show k.val + 1 * 0 = k.val; omega
  | ⟨1, _⟩ => show 0 + 1 * d.val = d.val; omega
  | ⟨2, _⟩ => show 0 + 1 * l.val = l.val; omega

variable (m : (ℓ : Loc nD τ sig) → Buf (Elt Ideal) ℓ)

/-- One expert's product of a loaded block, as a row's term. -/
theorem prodOf_term (s c : Dev nD) (k : Fin 4) (w : BitVec 32) (hw : w = BitVec.ofNat 32 (4 * s.val + k.val)) (r : Fin 128) (l : Fin 1024) (h : 128 * c.val + r.val < 1024) :
    prodOf (F := Ideal) w (xM.view.readAt (Elt Ideal) (xR c).toLoadRect (xs m s)) (iM.view.readAt (Elt Ideal) (iR c).toLoadRect (ids m s))
      (bM.view.readAt (Elt Ideal) (bR k).toLoadRect (ws m s)) (ix2 r l) = term (xs m s) (ids m s) (ws m s) s k ⟨128 * c.val + r.val, h⟩ l := by
  rw [prodOf_apply, load_i _ c r h, hw]
  unfold term
  refine if_congr Iff.rfl (Finset.sum_congr rfl fun d _ => ?_) rfl
  rw [load_x _ c r d h, load_w]

/-- A device's partial product: the terms of its four experts. -/
theorem part_apply (s c : Dev nD) (r : Fin 128) (l : Fin 1024) (h : 128 * c.val + r.val < 1024) :
    part m s c (ix2 r l) = ∑ k : Fin 4, term (xs m s) (ids m s) (ws m s) s k ⟨128 * c.val + r.val, h⟩ l := by
  rw [Fin.sum_univ_four, ← prodOf_term m s c 0 _ (word_eq s 0) r l h, ← prodOf_term m s c 1 _ (word_eq s 1) r l h,
    ← prodOf_term m s c 2 _ (word_eq s 2) r l h, ← prodOf_term m s c 3 _ (word_eq s 3) r l h]
  unfold part partOf
  show (Ideal.ofBits FTy.f32 0 + _ + _ + _ + _ : EReal) = _
  rw [show Ideal.ofBits FTy.f32 0 = 0 from Idealize.ShloMosaic.Ideal.ofBits_zero _, zero_add]
  rfl

/-- A family over the devices is its members at a device and its peers. -/
theorem sum_devs {A : Type} [AddCommMonoid A] (f : Dev nD → A) (c : Dev nD) : (∑ s : Dev nD, f s) = f c + ∑ r : Fin 7, f (peer c r) := by
  have h : (Finset.univ : Finset (Dev nD)) = insert c (Finset.univ.map ⟨peer c, fun r r' e => by revert c r r'; decide⟩) := by revert c; decide
  rw [h, Finset.sum_insert (by revert c; decide), Finset.sum_map]
  rfl

/-- The sum of the partial products of a device's rows. -/
theorem tot_apply (c : Dev nD) (r : Fin 128) (l : Fin 1024) : (tot m c (ix2 r l) : EReal) = ∑ s : Dev nD, (part m s c (ix2 r l) : EReal) := by
  rw [sum_devs _ c, Fin.sum_univ_seven]
  unfold tot k0_pay51 k0_pay50 k0_pay49
  have e (v : FVec Ideal S128x1024 .bf16) : shapeCast S128x1024 (unsq v) shapeCasts_S1x128x1024_S128x1024 = v := sq_unsq v
  simp only [e]
  show (part m c c (ix2 r l) + part m (peer c 0) c (ix2 r l) + part m (peer c 1) c (ix2 r l) + part m (peer c 2) c (ix2 r l) + part m (peer c 3) c (ix2 r l)
    + part m (peer c 4) c (ix2 r l) + part m (peer c 5) c (ix2 r l) + part m (peer c 6) c (ix2 r l) : EReal) = _
  simp only [add_assoc]

/-- The whole mathematics: a token's row through every expert, and of them the one that its route index names. -/
def moe (X : FVec Ideal S1024x512 .bf16) (I : Vec Ideal S1024x1 .i32) (W : FVec Ideal ⟨3, ![32, 512, 1024]⟩ .bf16) (n l : Fin 1024) : EReal :=
  ∑ e : Fin 32, if I (ix2 n 0) = BitVec.ofNat 32 e.val then ∑ d : Fin 512, X (ix2 n d) * W (ix3 e d l) else 0

/-- Summed over all devices, the terms are all experts' terms. -/
theorem sum_experts (X : FVec Ideal S1024x512 .bf16) (I : Vec Ideal S1024x1 .i32) (W : FVec Ideal ⟨3, ![32, 512, 1024]⟩ .bf16) (n l : Fin 1024) :
    (∑ s : Dev nD, ∑ k : Fin 4, term X I (Layout.block ⟨3, ![4, 512, 1024]⟩ ⟨3, ![32, 512, 1024]⟩ 0 8 s W) s k n l) = moe X I W n l := by
  unfold moe
  rw [← Equiv.sum_comp (finProdFinEquiv (m := 8) (n := 4)), Fintype.sum_prod_type]
  refine Finset.sum_congr rfl fun s _ => Finset.sum_congr rfl fun k _ => ?_
  unfold term
  have hv : ((finProdFinEquiv (m := 8) (n := 4)) (s, k)).val = 4 * s.val + k.val := by
    rw [finProdFinEquiv_apply_val]; show k.val + 4 * s.val = _; omega
  rw [hv]
  refine if_congr Iff.rfl (Finset.sum_congr rfl fun d _ => congrArg (X (ix2 n d) * ·) ?_) rfl
  rw [Layout.block_apply]
  refine congrArg W (funext fun a => Fin.ext ?_)
  match a with
  | ⟨0, _⟩ => show s.val * 4 + k.val = _; rw [Nat.mul_comm]; exact hv.symm
  | ⟨1, _⟩ => rfl
  | ⟨2, _⟩ => rfl

/-- The kernel's result, from devices that hold the tokens and the route indices whole and their blocks of the experts. -/
theorem outV_eq (X : FVec Ideal S1024x512 .bf16) (I : Vec Ideal S1024x1 .i32) (W : FVec Ideal ⟨3, ![32, 512, 1024]⟩ .bf16)
    (hX : ∀ s : Dev nD, xs m s = X) (hI : ∀ s : Dev nD, ids m s = I)
    (hW : ∀ s : Dev nD, ws m s = Layout.block ⟨3, ![4, 512, 1024]⟩ ⟨3, ![32, 512, 1024]⟩ 0 8 s W) (n l : Fin 1024) :
    outV m (ix2 n l) = moe X I W n l := by
  have hc : n.val / 128 < 8 := by omega
  have hr : n.val % 128 < 128 := by omega
  have hn : 128 * (⟨n.val / 128, hc⟩ : Dev nD).val + (⟨n.val % 128, hr⟩ : Fin 128).val < 1024 := by
    show 128 * (n.val / 128) + n.val % 128 < 1024; omega
  have hi : rowIx (ix2 n l) = ix2 (⟨n.val % 128, hr⟩ : Fin 128) l := funext fun a => Fin.ext (by
    match a with
    | ⟨0, _⟩ => rfl
    | ⟨1, _⟩ => rfl)
  have hd : rowDev (ix2 n l) = (⟨n.val / 128, hc⟩ : Dev nD) := rfl
  have hnn : (⟨128 * (⟨n.val / 128, hc⟩ : Dev nD).val + (⟨n.val % 128, hr⟩ : Fin 128).val, hn⟩ : Fin 1024) = n := Fin.ext (by
    show 128 * (n.val / 128) + n.val % 128 = n.val; omega)
  show (tot m (rowDev (ix2 n l)) (rowIx (ix2 n l)) : EReal) = _
  rw [hi, hd, tot_apply, ← sum_experts]
  refine Finset.sum_congr rfl fun s _ => ?_
  rw [part_apply m s _ _ l hn, hnn, hX, hI, hW]

/-- The result's array after the run. -/
theorem finalA_out (c : Dev nD) : finalA m c (3 : Fin 4) = outV m := by
  have h : (win0_3.blk t0_0).view.read (Elt Ideal) ((dats m 0 c).arrAt (3 : Fin 4) cfg0.N) = (dats m 0 c).flushed (3 : Fin 4) t0_0 := by
    rw [show cfg0.N = t0_0.val + 1 from rfl, (dats m 0 c).arrAt_succ (3 : Fin 4) t0_0, flush0_3, if_pos rfl]
    exact View.read_write_univ _ _
  have e (f : main_v1.ty.Contents (Elt Ideal)) : (win0_3.blk t0_0).view.read (Elt Ideal) f = f :=
    Memref.read_access_unit_zero (Elt Ideal) main_v1 (funext fun a => by fin_cases a <;> rfl) _ f
  exact (e _).symm.trans h

end Cert.KernelIdealProof
-- ==== Proof.Ref.lean ====
/-
# 01_k: what the reference computes

The reference's composed term over the extended reals, read at an index.
-/
module

public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceProof

open Cert.ReferenceIdeal Cert.ReferenceIdeal.Gen

open Idealize.ShloMosaic
open Idealize.ShloMosaic.TcCoe

/-- The reference's result of its arguments. -/
def refOut (X : FVec Ideal S1024x512 .bf16) (I : Vec Ideal S1024x1 .i32) (W : FVec Ideal S32x512x1024 .bf16) : FVec Ideal S1024x1024 .f32 :=
  Host.reduceAdd (select (broadcastInDim S32x1024x1024 ![0, 1, 2] bcast_S32x1024x1_S32x1024x1024_0_1_2 (broadcastInDim S32x1024x1 ![0, 1] bcast_S32x1024_S32x1024x1_0_1
      (cmpi .eq (broadcastInDim S32x1024 ![0, 1] bcast_S1x1024_S32x1024_0_1 (broadcastInDim S1x1024 ![1] bcast_S1024_S1x1024_1 (shapeCast _ I shapeCasts_S1024x1_S1024)))
        (broadcastInDim S32x1024 ![0, 1] bcast_S32x1_S32x1024_0_1 (broadcastInDim S32x1 ![0] bcast_S32_S32x1_0 (iotaInDim S32 32 0))))))
      (transpose S32x1024x1024 [0, 2, 1] (Host.dotGeneral dot_S32x512x1024_S1024x512_S32x1024x1024_1_1_02_0_n_n none (extf .f32 W bitsLt_bf16_f32) (extf .f32 X bitsLt_bf16_f32))
        transposes_S32x1024x1024_S32x1024x1024_0_2_1)
      (broadcastInDim S32x1024x1024 ![] bcast_S_S32x1024x1024 (id (constant S_ .f32 0x00000000#32)))) (constant S_ .f32 0x00000000#32) reducesTo_S32x1024x1024_S1024x1024_d0 h_S_

/-- At a token and a column: over the experts, the token's row through the expert that its route index names. -/
theorem refOut_apply (X : FVec Ideal S1024x512 .bf16) (I : Vec Ideal S1024x1 .i32) (W : FVec Ideal S32x512x1024 .bf16) (n l : Fin 1024) :
    refOut X I W (ix2 n l) = ∑ e : Fin 32, if I (ix2 n 0) = BitVec.ofNat 32 e.val then ∑ d : Fin 512, X (ix2 n d) * W (ix3 e d l) else (0 : EReal) := by
  unfold refOut
  pointwise
  refine Finset.sum_congr rfl fun e _ => ?_
  by_cases h : I (ix2 n 0) = BitVec.ofNat 32 e.val
  · rw [if_pos h, show IntOp.cmpi CmpIPredicate.eq (I (ix2 n 0)) (BitVec.ofNat 32 e.val) = 1#1 by simp [IntOp.cmpi, h]]
    show (∑ d : Fin 512, W (ix3 e d l) * X (ix2 n d) : EReal) = _
    exact Finset.sum_congr rfl fun d _ => mul_comm _ _
  · rw [if_neg h, show IntOp.cmpi CmpIPredicate.eq (I (ix2 n 0)) (BitVec.ofNat 32 e.val) = 0#1 by
      show BitVec.ofBool (I (ix2 n 0) == BitVec.ofNat 32 e.val) = 0#1
      rw [beq_eq_false_iff_ne.mpr h]; rfl]
    show Ideal.ofBits FTy.f32 0 = (0 : EReal)
    exact Idealize.ShloMosaic.Ideal.ofBits_zero _

end Cert.ReferenceProof
-- ==== Proof.lean ====
/-
# 01_k: the claims

The kernel's run on eight devices, on the words and on the extended reals; the reference's run; and that over the extended reals both compute
every token through the one expert that its route index names.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Ref
public import proofs.«01_k».proof.Proof.BitsLaunch
public import Idealize.ShloMosaic.Adequacy
public import Idealize.ShloMosaic.Init

@[expose] public section

noncomputable section

namespace Cert.Proof

open Idealize.ShloMosaic Idealize.SL.Sem

/-- The kernel's run on the words (`Cert.KernelProof.frame`). -/
theorem frame_p : Cert.quiescent_Kernel := fun m ρ _ => Cert.KernelProof.frame (F := Bits) m ρ

/-- The kernel's run on the extended reals (`Cert.KernelIdealProof.frame`). -/
theorem frame_pi : Cert.quiescent_KernelIdeal := fun m ρ _ => Cert.KernelIdealProof.frame (F := Ideal) m ρ

/-- The reference's run, read at its arguments; it declares no semaphore. -/
theorem frame_ri : Cert.quiescent_ReferenceIdeal := fun m ρ _ =>
  θ_run_mono (Cert.ReferenceIdeal.Value.run (F := Ideal) m ρ) fun r h => ⟨fun c => (h c).2, sem_eq_zero_of_no_sems (by decide) r.2⟩

/-- The kernel's result on every device is the reference's: at a token and a column, both are the sum over the experts of the token's row through the
    expert that its route index names (`outV_eq`, `refOut_apply`). -/
theorem value : Cert.algebraic_KernelIdeal_ReferenceIdeal := fun m ρ m' ρ' _ hargs => by
  refine ⟨Cert.KernelIdealProof.outV (F := Ideal) m, ?_, ?_⟩
  · exact θ_run_mono (Cert.KernelIdealProof.run_main (F := Ideal) m ρ) fun r h c =>
      ⟨((h.1 c).1 (3 : Fin 4)).trans (Cert.KernelIdealProof.finalA_out m c), ((h.1 c).1 (0 : Fin 4)).trans (Cert.KernelIdealProof.finalA_x m c), (h.1 c).2,
        ((h.1 c).1 (1 : Fin 4)).trans (Cert.KernelIdealProof.finalA_i m c), ((h.1 c).1 (2 : Fin 4)).trans (Cert.KernelIdealProof.finalA_w m c)⟩
  · refine θ_run_mono (Cert.ReferenceIdeal.Value.run (F := Ideal) m' ρ') fun r h => ⟨(h 0).1.trans ?_, (h 0).2⟩
    refine funext fun i => ?_
    obtain ⟨n, l, rfl⟩ : ∃ n l : Fin 1024, i = ix2 n l := ⟨i 0, i 1, funext fun a => by fin_cases a <;> rfl⟩
    refine (Cert.ReferenceProof.refOut_apply _ _ _ n l).trans (Cert.KernelIdealProof.outV_eq m _ _ _
      (fun s => (Cert.KernelIdealProof.xs_eq m s).trans (hargs s).1) (fun s => (Cert.KernelIdealProof.ids_eq m s).trans (hargs s).2.2.1)
      (fun s => (Cert.KernelIdealProof.ws_eq m s).trans (hargs s).2.2.2) n l).symm

/-- All the claims. -/
theorem claim : Cert.Claim := ⟨Cert.Kernel.Gen.facts, Cert.KernelIdeal.Gen.facts, Cert.ReferenceIdeal.Gen.facts, frame_p, frame_pi, frame_ri, trivial, value⟩

end Cert.Proof

end
